-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_image_size [hPre_finite_image_size : Cert.Pre_finite_image_size.Facts] (m : (ℓ : Loc Cert.KernelIdeal.nD Cert.KernelIdeal.τ Cert.KernelIdeal.sig) → Buf (Elt Ideal) ℓ) : Prop :=
  ∀ c : Dev Cert.KernelIdeal.nD,
    (Cert.Pre_finite_image_size.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_image_size [hPre_finite_image_size : Cert.Pre_finite_image_size.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_image_size.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_image_size [hKernelIdeal : Cert.KernelIdeal.Facts] [hPre_finite_image_size : Cert.Pre_finite_image_size.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_image_size m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_image_size [hReferenceIdeal : Cert.ReferenceIdeal.Facts] [hPre_finite_image_size : Cert.Pre_finite_image_size.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_image_size m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_image_size [hKernelIdeal : Cert.KernelIdeal.Facts] [hReferenceIdeal : Cert.ReferenceIdeal.Facts] [hPre_finite_image_size : Cert.Pre_finite_image_size.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_image_size m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_image_size : Cert.Pre_finite_image_size.Facts),
    quiescent_Kernel (hKernel := hKernel)
    ∧ quiescent_KernelIdeal (hKernelIdeal := hKernelIdeal)
    ∧ quiescent_KernelIdeal_pre_finite_image_size (hKernelIdeal := hKernelIdeal) (hPre_finite_image_size := hPre_finite_image_size)
    ∧ quiescent_ReferenceIdeal (hReferenceIdeal := hReferenceIdeal)
    ∧ quiescent_ReferenceIdeal_pre_finite_image_size (hReferenceIdeal := hReferenceIdeal) (hPre_finite_image_size := hPre_finite_image_size)
    ∧ preserves_Kernel_KernelIdeal
    ∧ algebraic_KernelIdeal_ReferenceIdeal_pre_finite_image_size (hKernelIdeal := hKernelIdeal) (hReferenceIdeal := hReferenceIdeal) (hPre_finite_image_size := hPre_finite_image_size)
-- ==== Pre_finite_image_size.lean ====
abbrev S2x2x9x64x64 : Shape := ⟨5, ![2, 2, 9, 64, 64]⟩
abbrev S2x36x64x64 : Shape := ⟨4, ![2, 36, 64, 64]⟩
abbrev S2x3 : Shape := ⟨2, ![2, 3]⟩
abbrev S2x2 : Shape := ⟨2, ![2, 2]⟩
abbrev S_ : Shape := ⟨0, ![]⟩

class Facts : Prop where
  slices_S2x3_S2x2_0_0 : S2x3.Slices ![0, 0] S2x2
  bcast_S_S2x2 : S_.BroadcastsInDim S2x2 (![] : Fin 0 → Fin S2x2.rank)

variable [Facts]

def fn {F : FTy → Type} [FloatOps F] (main_arg0 : FVec F S2x2x9x64x64 .f32) (main_arg1 : FVec F S2x36x64x64 .f32) (main_arg2 : FVec F S2x3 .f32) : IVec S2x2 1 :=
  let main_v0 : FVec F S2x2 .f32 := (extractStridedSlice S2x2 ![0, 0] · slices_S2x3_S2x2_0_0) main_arg2
  let main_v1 : FVec F S2x2 .f32 := Host.absf main_v0
  let main_cst : FVec F S_ .f32 := constant S_ .f32 0x7F800000#32
  let main_v2 : FVec F S2x2 .f32 := broadcastInDim S2x2 ![] bcast_S_S2x2 main_cst
  let main_v3 : IVec S2x2 1 := cmpf .olt main_v1 main_v2
  main_v3
-- ==== Kernel.lean ====
abbrev S2x2x9x64x64 : Shape := ⟨5, ![2, 2, 9, 64, 64]⟩
abbrev S2x36x64x64 : Shape := ⟨4, ![2, 36, 64, 64]⟩
abbrev S2x3 : Shape := ⟨2, ![2, 3]⟩
abbrev S2x1x9x64x64 : Shape := ⟨5, ![2, 1, 9, 64, 64]⟩
abbrev S2x9x64x64 : Shape := ⟨4, ![2, 9, 64, 64]⟩
abbrev S2x9x4096 : Shape := ⟨3, ![2, 9, 4096]⟩
abbrev S2x4096x9 : Shape := ⟨3, ![2, 4096, 9]⟩
abbrev S2x36864 : Shape := ⟨2, ![2, 36864]⟩
abbrev S2x2000 : Shape := ⟨2, ![2, 2000]⟩
abbrev S2x9x4x4096 : Shape := ⟨4, ![2, 9, 4, 4096]⟩
abbrev S2x4096x9x4 : Shape := ⟨4, ![2, 4096, 9, 4]⟩
abbrev S2x36864x4 : Shape := ⟨3, ![2, 36864, 4]⟩
abbrev S2x2000x1 : Shape := ⟨3, ![2, 2000, 1]⟩
abbrev S_ : Shape := ⟨0, ![]⟩
abbrev S1 : Shape := ⟨1, ![1]⟩
abbrev S1x1x1 : Shape := ⟨3, ![1, 1, 1]⟩
abbrev S2x2000x4 : Shape := ⟨3, ![2, 2000, 4]⟩
abbrev S2x2048x4 : Shape := ⟨3, ![2, 2048, 4]⟩
abbrev S2x4x2048 : Shape := ⟨3, ![2, 4, 2048]⟩
abbrev S2x4x16x128 : Shape := ⟨4, ![2, 4, 16, 128]⟩
abbrev S2x2048 : Shape := ⟨2, ![2, 2048]⟩
abbrev S2x16x128 : Shape := ⟨3, ![2, 16, 128]⟩
abbrev S2x2 : Shape := ⟨2, ![2, 2]⟩
abbrev S2x2x1 : Shape := ⟨3, ![2, 2, 1]⟩
abbrev S2x2x128 : Shape := ⟨3, ![2, 2, 128]⟩
abbrev S2x8x128 : Shape := ⟨3, ![2, 8, 128]⟩
abbrev S2x300x5 : Shape := ⟨3, ![2, 300, 5]⟩
abbrev S1x4x16x128 : Shape := ⟨4, ![1, 4, 16, 128]⟩
abbrev S1x16x128 : Shape := ⟨3, ![1, 16, 128]⟩
abbrev S1x8x128 : Shape := ⟨3, ![1, 8, 128]⟩
abbrev S1x300x5 : Shape := ⟨3, ![1, 300, 5]⟩
abbrev S5x16x128 : Shape := ⟨3, ![5, 16, 128]⟩
abbrev S16x128 : Shape := ⟨2, ![16, 128]⟩
abbrev S128x128 : Shape := ⟨2, ![128, 128]⟩
abbrev S1x1x16x128 : Shape := ⟨4, ![1, 1, 16, 128]⟩
abbrev S1x1x128 : Shape := ⟨3, ![1, 1, 128]⟩
abbrev S1x128 : Shape := ⟨2, ![1, 128]⟩
abbrev S304x1 : Shape := ⟨2, ![304, 1]⟩
abbrev S16x128x1 : Shape := ⟨3, ![16, 128, 1]⟩
abbrev S16x128x128 : Shape := ⟨3, ![16, 128, 128]⟩
abbrev S128 : Shape := ⟨1, ![128]⟩
abbrev S128x1 : Shape := ⟨2, ![128, 1]⟩
abbrev S304x128 : Shape := ⟨2, ![304, 128]⟩
abbrev S304 : Shape := ⟨1, ![304]⟩
abbrev S304x5 : Shape := ⟨2, ![304, 5]⟩
abbrev S300x5 : Shape := ⟨2, ![300, 5]⟩

abbrev nBuf : Space → Nat
  | .hbm => 52
  | .vmem => 11
  | .smem => 0
  | _ => 0

abbrev bufTy : (tb : Table) → Fin (tcTables nBuf tb) → BufTy
  | .hbm, ⟨0, _⟩ => ⟨S2x2x9x64x64, .f32⟩
  | .hbm, ⟨1, _⟩ => ⟨S2x36x64x64, .f32⟩
  | .hbm, ⟨2, _⟩ => ⟨S2x3, .f32⟩
  | .hbm, ⟨3, _⟩ => ⟨S2x1x9x64x64, .f32⟩
  | .hbm, ⟨4, _⟩ => ⟨S2x9x64x64, .f32⟩
  | .hbm, ⟨5, _⟩ => ⟨S2x9x4096, .f32⟩
  | .hbm, ⟨6, _⟩ => ⟨S2x4096x9, .f32⟩
  | .hbm, ⟨7, _⟩ => ⟨S2x36864, .f32⟩
  | .hbm, ⟨8, _⟩ => ⟨S2x2000, .f32⟩
  | .hbm, ⟨9, _⟩ => ⟨S2x2000, .i32⟩
  | .hbm, ⟨10, _⟩ => ⟨S2x9x4x4096, .f32⟩
  | .hbm, ⟨11, _⟩ => ⟨S2x4096x9x4, .f32⟩
  | .hbm, ⟨12, _⟩ => ⟨S2x36864x4, .f32⟩
  | .hbm, ⟨13, _⟩ => ⟨S2x2000x1, .i32⟩
  | .hbm, ⟨14, _⟩ => ⟨S_, .i32⟩
  | .hbm, ⟨15, _⟩ => ⟨S2x2000x1, .i32⟩
  | .hbm, ⟨16, _⟩ => ⟨S2x2000x1, .i1⟩
  | .hbm, ⟨17, _⟩ => ⟨S_, .i32⟩
  | .hbm, ⟨18, _⟩ => ⟨S2x2000x1, .i32⟩
  | .hbm, ⟨19, _⟩ => ⟨S2x2000x1, .i32⟩
  | .hbm, ⟨20, _⟩ => ⟨S2x2000x1, .i32⟩
  | .hbm, ⟨21, _⟩ => ⟨S1, .i32⟩
  | .hbm, ⟨22, _⟩ => ⟨S_, .i32⟩
  | .hbm, ⟨23, _⟩ => ⟨S2x2000x1, .i32⟩
  | .hbm, ⟨24, _⟩ => ⟨S2x2000x1, .i1⟩
  | .hbm, ⟨25, _⟩ => ⟨S1x1x1, .i32⟩
  | .hbm, ⟨26, _⟩ => ⟨S2x2000x1, .i32⟩
  | .hbm, ⟨27, _⟩ => ⟨S2x2000x1, .i1⟩
  | .hbm, ⟨28, _⟩ => ⟨S2x2000x1, .i1⟩
  | .hbm, ⟨29, _⟩ => ⟨S_, .i1⟩
  | .hbm, ⟨30, _⟩ => ⟨S2x2000, .i1⟩
  | .hbm, ⟨31, _⟩ => ⟨S2x2000x4, .f32⟩
  | .hbm, ⟨32, _⟩ => ⟨S2x2000x4, .i1⟩
  | .hbm, ⟨33, _⟩ => ⟨S_, .f32⟩
  | .hbm, ⟨34, _⟩ => ⟨S2x2000x4, .f32⟩
  | .hbm, ⟨35, _⟩ => ⟨S2x2000x4, .f32⟩
  | .hbm, ⟨36, _⟩ => ⟨S_, .i32⟩
  | .hbm, ⟨37, _⟩ => ⟨S_, .f32⟩
  | .hbm, ⟨38, _⟩ => ⟨S2x2048x4, .f32⟩
  | .hbm, ⟨39, _⟩ => ⟨S2x4x2048, .f32⟩
  | .hbm, ⟨40, _⟩ => ⟨S2x4x16x128, .f32⟩
  | .hbm, ⟨41, _⟩ => ⟨S_, .i32⟩
  | .hbm, ⟨42, _⟩ => ⟨S_, .i32⟩
  | .hbm, ⟨43, _⟩ => ⟨S2x2048, .i32⟩
  | .hbm, ⟨44, _⟩ => ⟨S2x16x128, .i32⟩
  | .hbm, ⟨45, _⟩ => ⟨S2x2, .f32⟩
  | .hbm, ⟨46, _⟩ => ⟨S2x2x1, .f32⟩
  | .hbm, ⟨47, _⟩ => ⟨S2x2x128, .f32⟩
  | .hbm, ⟨48, _⟩ => ⟨S_, .i32⟩
  | .hbm, ⟨49, _⟩ => ⟨S_, .f32⟩
  | .hbm, ⟨50, _⟩ => ⟨S2x8x128, .f32⟩
  | .hbm, ⟨51, _⟩ => ⟨S2x300x5, .f32⟩
  | .local _ .vmem, ⟨0, _⟩ => ⟨S1x4x16x128, .f32⟩
  | .local _ .vmem, ⟨1, _⟩ => ⟨S1x4x16x128, .f32⟩
  | .local _ .vmem, ⟨2, _⟩ => ⟨S1x16x128, .i32⟩
  | .local _ .vmem, ⟨3, _⟩ => ⟨S1x16x128, .i32⟩
  | .local _ .vmem, ⟨4, _⟩ => ⟨S1x8x128, .f32⟩
  | .local _ .vmem, ⟨5, _⟩ => ⟨S1x8x128, .f32⟩
  | .local _ .vmem, ⟨6, _⟩ => ⟨S1x300x5, .f32⟩
  | .local _ .vmem, ⟨7, _⟩ => ⟨S1x300x5, .f32⟩
  | .local _ .vmem, ⟨8, _⟩ => ⟨S5x16x128, .f32⟩
  | .local _ .vmem, ⟨9, _⟩ => ⟨S16x128, .f32⟩
  | .local _ .vmem, ⟨10, _⟩ => ⟨S128x128, .f32⟩
  | _, _ => ⟨S2x2x9x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_c_2 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_c_3 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v9 : Ref sig .tc := ⟨.hbm, 35, rfl⟩
abbrev main_c : Ref sig .tc := ⟨.hbm, 36, rfl⟩
abbrev main_call1_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_call2_v0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_1 : Ref sig .tc := ⟨.hbm, 48, rfl⟩
abbrev main_call3_v0 : Ref sig .tc := ⟨.hbm, 49, rfl⟩
abbrev main_v18 : Ref sig .tc := ⟨.hbm, 50, rfl⟩
abbrev main_v19 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def k0_off1 (arg8 : BitVec 32) : Fin 3 → Nat :=
  let c0_115 : Index := 0#32
  let v220 : Index := Scalar.indexCast arg8
  let c0_116 : Index := 0#32
  ![0, v220.toNat, 0]

def k0_off2 (arg8 : BitVec 32) : Fin 3 → Nat :=
  let c1_117 : Index := 1#32
  let v223 : Index := Scalar.indexCast arg8
  let c0_118 : Index := 0#32
  ![1, v223.toNat, 0]
def k0_off3 (arg8 : BitVec 32) : Fin 3 → Nat :=
  let c2_119 : Index := 2#32
  let v226 : Index := Scalar.indexCast arg8
  let c0_120 : Index := 0#32
  ![2, v226.toNat, 0]
def k0_off4 (arg8 : BitVec 32) : Fin 3 → Nat :=
  let c3_121 : Index := 3#32
  let v229 : Index := Scalar.indexCast arg8
  let c0_122 : Index := 0#32
  ![3, v229.toNat, 0]
def k0_off5 (arg8 : BitVec 32) : Fin 3 → Nat :=
  let c4_123 : Index := 4#32
  let v232 : Index := Scalar.indexCast arg8
  let c0_124 : Index := 0#32
  ![4, v232.toNat, 0]
@[reducible] def k0_t1_loop : Scf.Loop 32 :=
  let c0_i32_162 : BitVec 32 := 0#32
  let c128_i32 : BitVec 32 := 128#32
  let v333 : BitVec 32 := Scalar.addi c0_i32_162 c128_i32
  let c1_i32 : BitVec 32 := 1#32
  ⟨c0_i32_162, v333, c1_i32⟩
def k0_off6 (k0_t1 : Fin k0_t1_loop.trips) : Fin 2 → Nat :=
  let c0_i32_162 : BitVec 32 := 0#32
  let c1_i32 : BitVec 32 := 1#32
  let arg14 : BitVec 32 := Scf.iv c0_i32_162 c1_i32 k0_t1
  let v398 : Index := Scalar.indexCast arg14
  let c0_182 : Index := 0#32
  ![v398.toNat, 0]
def k0_off7 (arg8 : BitVec 32) : Fin 2 → Nat :=
  let v345 : Index := Scalar.indexCast arg8
  let c0_168 : Index := 0#32
  ![v345.toNat, 0]

def k0_chk1 (arg8 : BitVec 32) : Prop :=
  (∀ a, (k0_off1 arg8) a + S1x1x128.size a ≤ S5x16x128.size a) ∧
  (∀ a, (k0_off2 arg8) a + S1x1x128.size a ≤ S5x16x128.size a) ∧
  (∀ a, (k0_off3 arg8) a + S1x1x128.size a ≤ S5x16x128.size a) ∧
  (∀ a, (k0_off4 arg8) a + S1x1x128.size a ≤ S5x16x128.size a) ∧
  (∀ a, (k0_off5 arg8) a + S1x1x128.size a ≤ S5x16x128.size a) ∧
  (∀ a, (k0_off7 arg8) a + S1x128.size a ≤ S16x128.size a)
theorem k0_off1_inb : ∀ (arg8 : BitVec 32) (k0_hw1 : k0_chk1 arg8), ∀ a, (k0_off1 arg8) a + S1x1x128.size a ≤ S5x16x128.size a := fun arg8 k0_hw1 => k0_hw1.1
theorem k0_off2_inb : ∀ (arg8 : BitVec 32) (k0_hw1 : k0_chk1 arg8), ∀ a, (k0_off2 arg8) a + S1x1x128.size a ≤ S5x16x128.size a := fun arg8 k0_hw1 => k0_hw1.2.1
theorem k0_off3_inb : ∀ (arg8 : BitVec 32) (k0_hw1 : k0_chk1 arg8), ∀ a, (k0_off3 arg8) a + S1x1x128.size a ≤ S5x16x128.size a := fun arg8 k0_hw1 => k0_hw1.2.2.1
theorem k0_off4_inb : ∀ (arg8 : BitVec 32) (k0_hw1 : k0_chk1 arg8), ∀ a, (k0_off4 arg8) a + S1x1x128.size a ≤ S5x16x128.size a := fun arg8 k0_hw1 => k0_hw1.2.2.2.1
theorem k0_off5_inb : ∀ (arg8 : BitVec 32) (k0_hw1 : k0_chk1 arg8), ∀ a, (k0_off5 arg8) a + S1x1x128.size a ≤ S5x16x128.size a := fun arg8 k0_hw1 => k0_hw1.2.2.2.2.1
theorem k0_off7_inb : ∀ (arg8 : BitVec 32) (k0_hw1 : k0_chk1 arg8), ∀ a, (k0_off7 arg8) a + S1x128.size a ≤ S16x128.size a := fun arg8 k0_hw1 => k0_hw1.2.2.2.2.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x300x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x2x9x64x64 : Shape := ⟨5, ![2, 2, 9, 64, 64]⟩
abbrev S2x36x64x64 : Shape := ⟨4, ![2, 36, 64, 64]⟩
abbrev S2x3 : Shape := ⟨2, ![2, 3]⟩
abbrev S9x4 : Shape := ⟨2, ![9, 4]⟩
abbrev S2x1x9x64x64 : Shape := ⟨5, ![2, 1, 9, 64, 64]⟩
abbrev S2x9x64x64 : Shape := ⟨4, ![2, 9, 64, 64]⟩
abbrev S64 : Shape := ⟨1, ![64]⟩
abbrev S_ : Shape := ⟨0, ![]⟩
abbrev S64x64 : Shape := ⟨2, ![64, 64]⟩
abbrev S4096 : Shape := ⟨1, ![4096]⟩
abbrev S4096x1 : Shape := ⟨2, ![4096, 1]⟩
abbrev S4096x4 : Shape := ⟨2, ![4096, 4]⟩
abbrev S1x9x4 : Shape := ⟨3, ![1, 9, 4]⟩
abbrev S4096x1x4 : Shape := ⟨3, ![4096, 1, 4]⟩
abbrev S4096x9x4 : Shape := ⟨3, ![4096, 9, 4]⟩
abbrev S1x36864x4 : Shape := ⟨3, ![1, 36864, 4]⟩
abbrev S2x36864x4 : Shape := ⟨3, ![2, 36864, 4]⟩
abbrev S2x64x64x36 : Shape := ⟨4, ![2, 64, 64, 36]⟩
abbrev S2x64x64x9 : Shape := ⟨4, ![2, 64, 64, 9]⟩
abbrev S2x36864 : Shape := ⟨2, ![2, 36864]⟩
abbrev S2x36864x1 : Shape := ⟨3, ![2, 36864, 1]⟩
abbrev S2x1 : Shape := ⟨2, ![2, 1]⟩
abbrev S2 : Shape := ⟨1, ![2]⟩
abbrev S2x2000 : Shape := ⟨2, ![2, 2000]⟩
abbrev S2x2000x1 : Shape := ⟨3, ![2, 2000, 1]⟩
abbrev S1 : Shape := ⟨1, ![1]⟩
abbrev S1x1x1 : Shape := ⟨3, ![1, 1, 1]⟩
abbrev S2x2000x4 : Shape := ⟨3, ![2, 2000, 4]⟩
abbrev S2x1x2000 : Shape := ⟨3, ![2, 1, 2000]⟩
abbrev S2x2000x2000 : Shape := ⟨3, ![2, 2000, 2000]⟩
abbrev S2000 : Shape := ⟨1, ![2000]⟩
abbrev S1x2000 : Shape := ⟨2, ![1, 2000]⟩
abbrev S2x300 : Shape := ⟨2, ![2, 300]⟩
abbrev S2x300x1 : Shape := ⟨3, ![2, 300, 1]⟩
abbrev S2x300x4 : Shape := ⟨3, ![2, 300, 4]⟩
abbrev S2x1x1 : Shape := ⟨3, ![2, 1, 1]⟩
abbrev S2x300x5 : Shape := ⟨3, ![2, 300, 5]⟩

abbrev nBuf : Space → Nat
  | .hbm => 318
  | .vmem => 0
  | .smem => 0
  | _ => 0

abbrev hbmTy0_0 (i : Nat) : BufTy := match i % 128 with
  | 0 => ⟨S2x2x9x64x64, .f32⟩
  | 1 => ⟨S2x36x64x64, .f32⟩
  | 2 => ⟨S2x3, .f32⟩
  | 3 => ⟨S9x4, .f32⟩
  | 4 => ⟨S2x1x9x64x64, .f32⟩
  | 5 => ⟨S2x9x64x64, .f32⟩
  | 6 => ⟨S64, .f32⟩
  | 7 => ⟨S_, .f32⟩
  | 8 => ⟨S64, .f32⟩
  | 9 => ⟨S64, .f32⟩
  | 10 => ⟨S64, .f32⟩
  | 11 => ⟨S_, .f32⟩
  | 12 => ⟨S64, .f32⟩
  | 13 => ⟨S64, .f32⟩
  | 14 => ⟨S64x64, .f32⟩
  | 15 => ⟨S64x64, .f32⟩
  | 16 => ⟨S4096, .f32⟩
  | 17 => ⟨S4096, .f32⟩
  | 18 => ⟨S4096, .f32⟩
  | 19 => ⟨S4096, .f32⟩
  | 20 => ⟨S4096x1, .f32⟩
  | 21 => ⟨S4096x1, .f32⟩
  | 22 => ⟨S4096x1, .f32⟩
  | 23 => ⟨S4096x1, .f32⟩
  | 24 => ⟨S4096x4, .f32⟩
  | 25 => ⟨S1x9x4, .f32⟩
  | 26 => ⟨S4096x1x4, .f32⟩
  | 27 => ⟨S4096x9x4, .f32⟩
  | 28 => ⟨S4096x9x4, .f32⟩
  | 29 => ⟨S4096x9x4, .f32⟩
  | 30 => ⟨S1x36864x4, .f32⟩
  | 31 => ⟨S2x36864x4, .f32⟩
  | 32 => ⟨S2x64x64x36, .f32⟩
  | 33 => ⟨S2x36864x4, .f32⟩
  | 34 => ⟨S2x64x64x9, .f32⟩
  | 35 => ⟨S2x36864, .f32⟩
  | 36 => ⟨S2x36864x1, .f32⟩
  | 37 => ⟨S2x36864, .f32⟩
  | 38 => ⟨S2x36864x1, .f32⟩
  | 39 => ⟨S2x36864, .f32⟩
  | 40 => ⟨S2x36864, .f32⟩
  | 41 => ⟨S_, .f32⟩
  | 42 => ⟨S2x36864, .f32⟩
  | 43 => ⟨S2x36864, .f32⟩
  | 44 => ⟨S2x36864x1, .f32⟩
  | 45 => ⟨S2x36864, .f32⟩
  | 46 => ⟨S2x36864x1, .f32⟩
  | 47 => ⟨S2x36864, .f32⟩
  | 48 => ⟨S2x36864, .f32⟩
  | 49 => ⟨S_, .f32⟩
  | 50 => ⟨S2x36864, .f32⟩
  | 51 => ⟨S2x36864, .f32⟩
  | 52 => ⟨S2x36864x1, .f32⟩
  | 53 => ⟨S2x36864, .f32⟩
  | 54 => ⟨S_, .f32⟩
  | 55 => ⟨S2x36864, .f32⟩
  | 56 => ⟨S2x36864, .f32⟩
  | 57 => ⟨S2x36864, .f32⟩
  | 58 => ⟨S2x36864x1, .f32⟩
  | 59 => ⟨S2x36864, .f32⟩
  | 60 => ⟨S_, .f32⟩
  | 61 => ⟨S2x36864, .f32⟩
  | 62 => ⟨S2x36864, .f32⟩
  | 63 => ⟨S2x36864, .f32⟩
  | 64 => ⟨S2x36864x1, .f32⟩
  | 65 => ⟨S2x36864, .f32⟩
  | 66 => ⟨S2x36864x1, .f32⟩
  | 67 => ⟨S2x36864, .f32⟩
  | 68 => ⟨S2x36864x1, .f32⟩
  | 69 => ⟨S2x36864, .f32⟩
  | 70 => ⟨S2x36864x1, .f32⟩
  | 71 => ⟨S2x36864, .f32⟩
  | 72 => ⟨S2x36864, .f32⟩
  | 73 => ⟨S2x36864, .f32⟩
  | 74 => ⟨S2x36864, .f32⟩
  | 75 => ⟨S2x36864, .f32⟩
  | 76 => ⟨S2x36864, .f32⟩
  | 77 => ⟨S2x36864, .f32⟩
  | 78 => ⟨S2x36864, .f32⟩
  | 79 => ⟨S2x36864, .f32⟩
  | 80 => ⟨S_, .f32⟩
  | 81 => ⟨S2x36864, .f32⟩
  | 82 => ⟨S2x36864, .f32⟩
  | 83 => ⟨S2x36864, .f32⟩
  | 84 => ⟨S_, .f32⟩
  | 85 => ⟨S2x36864, .f32⟩
  | 86 => ⟨S2x36864, .f32⟩
  | 87 => ⟨S2x36864, .f32⟩
  | 88 => ⟨S_, .f32⟩
  | 89 => ⟨S2x36864, .f32⟩
  | 90 => ⟨S2x36864, .f32⟩
  | 91 => ⟨S2x36864, .f32⟩
  | 92 => ⟨S_, .f32⟩
  | 93 => ⟨S2x36864, .f32⟩
  | 94 => ⟨S2x36864, .f32⟩
  | 95 => ⟨S2x36864, .f32⟩
  | 96 => ⟨S2x1, .f32⟩
  | 97 => ⟨S2, .f32⟩
  | 98 => ⟨S2x1, .f32⟩
  | 99 => ⟨S2x1, .f32⟩
  | 100 => ⟨S2, .f32⟩
  | 101 => ⟨S2x1, .f32⟩
  | 102 => ⟨S_, .f32⟩
  | 103 => ⟨S2x36864, .f32⟩
  | 104 => ⟨S2x36864, .f32⟩
  | 105 => ⟨S_, .f32⟩
  | 106 => ⟨S2x1, .f32⟩
  | 107 => ⟨S2x1, .f32⟩
  | 108 => ⟨S2x36864, .f32⟩
  | 109 => ⟨S2x36864, .f32⟩
  | 110 => ⟨S_, .f32⟩
  | 111 => ⟨S2x36864, .f32⟩
  | 112 => ⟨S2x36864, .f32⟩
  | 113 => ⟨S_, .f32⟩
  | 114 => ⟨S2x1, .f32⟩
  | 115 => ⟨S2x1, .f32⟩
  | 116 => ⟨S2x36864, .f32⟩
  | 117 => ⟨S2x36864, .f32⟩
  | 118 => ⟨S_, .f32⟩
  | 119 => ⟨S2x36864, .f32⟩
  | 120 => ⟨S2x36864, .f32⟩
  | 121 => ⟨S_, .f32⟩
  | 122 => ⟨S2x1, .f32⟩
  | 123 => ⟨S2x1, .f32⟩
  | 124 => ⟨S2x36864, .f32⟩
  | 125 => ⟨S2x36864, .f32⟩
  | 126 => ⟨S_, .f32⟩
  | 127 => ⟨S2x36864, .f32⟩
  | _ => ⟨S2x2x9x64x64, .f32⟩

abbrev hbmTy0_1 (i : Nat) : BufTy := match i % 128 with
  | 0 => ⟨S2x36864, .f32⟩
  | 1 => ⟨S_, .f32⟩
  | 2 => ⟨S2x1, .f32⟩
  | 3 => ⟨S2x1, .f32⟩
  | 4 => ⟨S2x36864, .f32⟩
  | 5 => ⟨S2x36864, .f32⟩
  | 6 => ⟨S2x36864x1, .f32⟩
  | 7 => ⟨S2x36864x1, .f32⟩
  | 8 => ⟨S2x36864x1, .f32⟩
  | 9 => ⟨S2x36864x1, .f32⟩
  | 10 => ⟨S2x36864x4, .f32⟩
  | 11 => ⟨S2x2000, .f32⟩
  | 12 => ⟨S2x2000, .i32⟩
  | 13 => ⟨S2x2000x1, .i32⟩
  | 14 => ⟨S_, .i32⟩
  | 15 => ⟨S2x2000x1, .i32⟩
  | 16 => ⟨S2x2000x1, .i1⟩
  | 17 => ⟨S_, .i32⟩
  | 18 => ⟨S2x2000x1, .i32⟩
  | 19 => ⟨S2x2000x1, .i32⟩
  | 20 => ⟨S2x2000x1, .i32⟩
  | 21 => ⟨S1, .i32⟩
  | 22 => ⟨S_, .i32⟩
  | 23 => ⟨S2x2000x1, .i32⟩
  | 24 => ⟨S2x2000x1, .i1⟩
  | 25 => ⟨S1x1x1, .i32⟩
  | 26 => ⟨S2x2000x1, .i32⟩
  | 27 => ⟨S2x2000x1, .i1⟩
  | 28 => ⟨S2x2000x1, .i1⟩
  | 29 => ⟨S_, .i1⟩
  | 30 => ⟨S2x2000, .i1⟩
  | 31 => ⟨S2x2000x4, .f32⟩
  | 32 => ⟨S2x2000x4, .i1⟩
  | 33 => ⟨S_, .f32⟩
  | 34 => ⟨S2x2000x4, .f32⟩
  | 35 => ⟨S2x2000x4, .f32⟩
  | 36 => ⟨S2x2000x1, .f32⟩
  | 37 => ⟨S2x2000, .f32⟩
  | 38 => ⟨S2x2000x1, .f32⟩
  | 39 => ⟨S2x2000, .f32⟩
  | 40 => ⟨S2x2000x1, .f32⟩
  | 41 => ⟨S2x2000, .f32⟩
  | 42 => ⟨S2x2000x1, .f32⟩
  | 43 => ⟨S2x2000, .f32⟩
  | 44 => ⟨S2x2000, .f32⟩
  | 45 => ⟨S_, .f32⟩
  | 46 => ⟨S2x2000, .f32⟩
  | 47 => ⟨S2x2000, .f32⟩
  | 48 => ⟨S2x2000, .f32⟩
  | 49 => ⟨S_, .f32⟩
  | 50 => ⟨S2x2000, .f32⟩
  | 51 => ⟨S2x2000, .f32⟩
  | 52 => ⟨S2x2000, .f32⟩
  | 53 => ⟨S2x2000x1, .f32⟩
  | 54 => ⟨S2x1x2000, .f32⟩
  | 55 => ⟨S2x2000x2000, .f32⟩
  | 56 => ⟨S2x2000x2000, .f32⟩
  | 57 => ⟨S2x2000x2000, .f32⟩
  | 58 => ⟨S2x2000x1, .f32⟩
  | 59 => ⟨S2x1x2000, .f32⟩
  | 60 => ⟨S2x2000x2000, .f32⟩
  | 61 => ⟨S2x2000x2000, .f32⟩
  | 62 => ⟨S2x2000x2000, .f32⟩
  | 63 => ⟨S2x2000x1, .f32⟩
  | 64 => ⟨S2x1x2000, .f32⟩
  | 65 => ⟨S2x2000x2000, .f32⟩
  | 66 => ⟨S2x2000x2000, .f32⟩
  | 67 => ⟨S2x2000x2000, .f32⟩
  | 68 => ⟨S2x2000x1, .f32⟩
  | 69 => ⟨S2x1x2000, .f32⟩
  | 70 => ⟨S2x2000x2000, .f32⟩
  | 71 => ⟨S2x2000x2000, .f32⟩
  | 72 => ⟨S2x2000x2000, .f32⟩
  | 73 => ⟨S2x2000x2000, .f32⟩
  | 74 => ⟨S_, .f32⟩
  | 75 => ⟨S2x2000x2000, .f32⟩
  | 76 => ⟨S2x2000x2000, .f32⟩
  | 77 => ⟨S_, .f32⟩
  | 78 => ⟨S2x2000x2000, .f32⟩
  | 79 => ⟨S2x2000x2000, .f32⟩
  | 80 => ⟨S2x2000x2000, .f32⟩
  | 81 => ⟨S_, .f32⟩
  | 82 => ⟨S2x2000x2000, .f32⟩
  | 83 => ⟨S2x2000x2000, .f32⟩
  | 84 => ⟨S_, .f32⟩
  | 85 => ⟨S2x2000x2000, .f32⟩
  | 86 => ⟨S2x2000x2000, .f32⟩
  | 87 => ⟨S2x2000x2000, .f32⟩
  | 88 => ⟨S2x2000x1, .f32⟩
  | 89 => ⟨S2x1x2000, .f32⟩
  | 90 => ⟨S2x2000x2000, .f32⟩
  | 91 => ⟨S2x2000x2000, .f32⟩
  | 92 => ⟨S2x2000x2000, .f32⟩
  | 93 => ⟨S2x2000x2000, .f32⟩
  | 94 => ⟨S2x2000x2000, .f32⟩
  | 95 => ⟨S2000, .i32⟩
  | 96 => ⟨S1x2000, .i32⟩
  | 97 => ⟨S_, .i1⟩
  | 98 => ⟨S2x2000, .i1⟩
  | 99 => ⟨S_, .i32⟩
  | 100 => ⟨S_, .i32⟩
  | 101 => ⟨S2x2000x2000, .f32⟩
  | 102 => ⟨S1x2000, .i32⟩
  | 103 => ⟨S_, .i32⟩
  | 104 => ⟨S_, .i32⟩
  | 105 => ⟨S2x2000, .i1⟩
  | 106 => ⟨S_, .i32⟩
  | 107 => ⟨S_, .i1⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S2x1x2000, .f32⟩
  | 119 => ⟨S2x2000, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S2x1, .i1⟩
  | _ => ⟨S2x2x9x64x64, .f32⟩

abbrev hbmTy0_2 (i : Nat) : BufTy := match i % 128 with
  | 0 => ⟨S_, .f32⟩
  | 1 => ⟨S2x2000, .f32⟩
  | 2 => ⟨S2x2000, .i1⟩
  | 3 => ⟨S_, .i32⟩
  | 4 => ⟨S1x2000, .i32⟩
  | 5 => ⟨S1x2000, .i1⟩
  | 6 => ⟨S2x2000, .i1⟩
  | 7 => ⟨S2x2000, .i1⟩
  | 8 => ⟨S2x2000, .i1⟩
  | 9 => ⟨S2x2000, .i1⟩
  | 10 => ⟨S2x2000, .i1⟩
  | 11 => ⟨S2x2000, .i1⟩
  | 12 => ⟨S_, .i32⟩
  | 13 => ⟨S_, .i32⟩
  | 14 => ⟨S2000, .i32⟩
  | 15 => ⟨S1x2000, .i32⟩
  | 16 => ⟨S_, .i32⟩
  | 17 => ⟨S_, .i32⟩
  | 18 => ⟨S2x2000, .i32⟩
  | 19 => ⟨S2x2000, .i32⟩
  | 20 => ⟨S2x2000, .i32⟩
  | 21 => ⟨S2x2000, .i32⟩
  | 22 => ⟨S2x300, .i32⟩
  | 23 => ⟨S_, .i32⟩
  | 24 => ⟨S2x300, .i32⟩
  | 25 => ⟨S2x300, .i1⟩
  | 26 => ⟨S_, .i32⟩
  | 27 => ⟨S2x300, .i32⟩
  | 28 => ⟨S2x300, .i32⟩
  | 29 => ⟨S2x300x1, .i32⟩
  | 30 => ⟨S_, .i32⟩
  | 31 => ⟨S2x300x1, .i32⟩
  | 32 => ⟨S2x300x1, .i1⟩
  | 33 => ⟨S_, .i32⟩
  | 34 => ⟨S2x300x1, .i32⟩
  | 35 => ⟨S2x300x1, .i32⟩
  | 36 => ⟨S2x300x1, .i32⟩
  | 37 => ⟨S1, .i32⟩
  | 38 => ⟨S_, .i32⟩
  | 39 => ⟨S2x300x1, .i32⟩
  | 40 => ⟨S2x300x1, .i1⟩
  | 41 => ⟨S1x1x1, .i32⟩
  | 42 => ⟨S2x300x1, .i32⟩
  | 43 => ⟨S2x300x1, .i1⟩
  | 44 => ⟨S2x300x1, .i1⟩
  | 45 => ⟨S_, .i1⟩
  | 46 => ⟨S2x300, .i1⟩
  | 47 => ⟨S2x300x4, .f32⟩
  | 48 => ⟨S2x300x4, .i1⟩
  | 49 => ⟨S_, .f32⟩
  | 50 => ⟨S2x300x4, .f32⟩
  | 51 => ⟨S2x300x4, .f32⟩
  | 52 => ⟨S2x300x1, .i1⟩
  | 53 => ⟨S_, .f32⟩
  | 54 => ⟨S_, .f32⟩
  | 55 => ⟨S2x300x4, .i1⟩
  | 56 => ⟨S2x300x4, .f32⟩
  | 57 => ⟨S2x300x4, .f32⟩
  | 58 => ⟨S2, .f32⟩
  | 59 => ⟨S2x1x1, .f32⟩
  | 60 => ⟨S2x300x1, .f32⟩
  | 61 => ⟨S2x300x5, .f32⟩
  | _ => ⟨S2x2x9x64x64, .f32⟩

abbrev hbmTy (i : Nat) : BufTy := match i / 128 with
  | 0 => hbmTy0_0 i
  | 1 => hbmTy0_1 i
  | 2 => hbmTy0_2 i
  | _ => ⟨S2x2x9x64x64, .f32⟩

abbrev bufTy : (tb : Table) → Fin (tcTables nBuf tb) → BufTy
  | .hbm, ⟨i, _⟩ => hbmTy i
  | _, _ => ⟨S2x2x9x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_5 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_6 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_7 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_9 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_10 : Ref sig .tc := ⟨.hbm, 102, rfl⟩
abbrev main_v88 : Ref sig .tc := ⟨.hbm, 103, rfl⟩
abbrev main_v89 : Ref sig .tc := ⟨.hbm, 104, rfl⟩
abbrev main_cst_11 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_12 : Ref sig .tc := ⟨.hbm, 110, rfl⟩
abbrev main_v94 : Ref sig .tc := ⟨.hbm, 111, rfl⟩
abbrev main_v95 : Ref sig .tc := ⟨.hbm, 112, rfl⟩
abbrev main_cst_13 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_14 : Ref sig .tc := ⟨.hbm, 118, rfl⟩
abbrev main_v100 : Ref sig .tc := ⟨.hbm, 119, rfl⟩
abbrev main_v101 : Ref sig .tc := ⟨.hbm, 120, rfl⟩
abbrev main_cst_15 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_16 : Ref sig .tc := ⟨.hbm, 126, rfl⟩
abbrev main_v106 : Ref sig .tc := ⟨.hbm, 127, rfl⟩
abbrev main_v107 : Ref sig .tc := ⟨.hbm, 128, rfl⟩
abbrev main_cst_17 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_values : Ref sig .tc := ⟨.hbm, 139, rfl⟩
abbrev main_indices : Ref sig .tc := ⟨.hbm, 140, rfl⟩
abbrev main_v117 : Ref sig .tc := ⟨.hbm, 141, rfl⟩
abbrev main_call0_c : Ref sig .tc := ⟨.hbm, 142, rfl⟩
abbrev main_call0_v0 : Ref sig .tc := ⟨.hbm, 143, rfl⟩
abbrev main_call0_v1 : Ref sig .tc := ⟨.hbm, 144, rfl⟩
abbrev main_call0_c_0 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_c_1 : Ref sig .tc := ⟨.hbm, 149, rfl⟩
abbrev main_call0_c_2 : Ref sig .tc := ⟨.hbm, 150, rfl⟩
abbrev main_call0_v5 : Ref sig .tc := ⟨.hbm, 151, rfl⟩
abbrev main_call0_v6 : Ref sig .tc := ⟨.hbm, 152, rfl⟩
abbrev main_call0_v7 : Ref sig .tc := ⟨.hbm, 153, rfl⟩
abbrev main_call0_v8 : Ref sig .tc := ⟨.hbm, 154, rfl⟩
abbrev main_call0_v9 : Ref sig .tc := ⟨.hbm, 155, rfl⟩
abbrev main_call0_v10 : Ref sig .tc := ⟨.hbm, 156, rfl⟩
abbrev main_call0_c_3 : Ref sig .tc := ⟨.hbm, 157, rfl⟩
abbrev main_call0_v11 : Ref sig .tc := ⟨.hbm, 158, rfl⟩
abbrev main_call0_v12 : Ref sig .tc := ⟨.hbm, 159, rfl⟩
abbrev main_call0_v13 : Ref sig .tc := ⟨.hbm, 160, rfl⟩
abbrev main_call0_cst : Ref sig .tc := ⟨.hbm, 161, rfl⟩
abbrev main_call0_v14 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_18 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_19 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_20 : Ref sig .tc := ⟨.hbm, 202, rfl⟩
abbrev main_v155 : Ref sig .tc := ⟨.hbm, 203, rfl⟩
abbrev main_v156 : Ref sig .tc := ⟨.hbm, 204, rfl⟩
abbrev main_cst_21 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_22 : Ref sig .tc := ⟨.hbm, 209, rfl⟩
abbrev main_v160 : Ref sig .tc := ⟨.hbm, 210, rfl⟩
abbrev main_v161 : Ref sig .tc := ⟨.hbm, 211, rfl⟩
abbrev main_cst_23 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_c : Ref sig .tc := ⟨.hbm, 225, rfl⟩
abbrev main_v174 : Ref sig .tc := ⟨.hbm, 226, rfl⟩
abbrev main_c_24 : Ref sig .tc := ⟨.hbm, 227, rfl⟩
abbrev main_c_25 : Ref sig .tc := ⟨.hbm, 228, rfl⟩
abbrev main_v175_0 : Ref sig .tc := ⟨.hbm, 229, rfl⟩
abbrev main_v175_1 : Ref sig .tc := ⟨.hbm, 230, rfl⟩
abbrev main_v175_2 : Ref sig .tc := ⟨.hbm, 231, rfl⟩
abbrev main_v175_3 : Ref sig .tc := ⟨.hbm, 232, rfl⟩
abbrev main_v175_4 : Ref sig .tc := ⟨.hbm, 233, rfl⟩
abbrev main_while0c_c_34 : Ref sig .tc := ⟨.hbm, 234, rfl⟩
abbrev main_while0c_v193 : Ref sig .tc := ⟨.hbm, 235, rfl⟩
abbrev main_while0b_c_34 : Ref sig .tc := ⟨.hbm, 236, rfl⟩
abbrev main_while0b_v193 : Ref sig .tc := ⟨.hbm, 237, rfl⟩
abbrev main_while0b_c_35 : Ref sig .tc := ⟨.hbm, 238, rfl⟩
abbrev main_while0b_v194 : Ref sig .tc := ⟨.hbm, 239, rfl⟩
abbrev main_while0b_v195 : Ref sig .tc := ⟨.hbm, 240, rfl⟩
abbrev main_while0b_c_36 : Ref sig .tc := ⟨.hbm, 241, rfl⟩
abbrev main_while0b_v196 : Ref sig .tc := ⟨.hbm, 242, rfl⟩
abbrev main_while0b_v197 : Ref sig .tc := ⟨.hbm, 243, rfl⟩
abbrev main_while0b_c_37 : Ref sig .tc := ⟨.hbm, 244, rfl⟩
abbrev main_while0b_c_38 : Ref sig .tc := ⟨.hbm, 245, rfl⟩
abbrev main_while0b_v198 : Ref sig .tc := ⟨.hbm, 246, rfl⟩
abbrev main_while0b_v199 : Ref sig .tc := ⟨.hbm, 247, rfl⟩
abbrev main_while0b_c_39 : Ref sig .tc := ⟨.hbm, 248, rfl⟩
abbrev main_while0b_v200 : Ref sig .tc := ⟨.hbm, 249, rfl⟩
abbrev main_while0b_v201 : Ref sig .tc := ⟨.hbm, 250, rfl⟩
abbrev main_while0b_c_40 : Ref sig .tc := ⟨.hbm, 251, rfl⟩
abbrev main_while0b_v202 : Ref sig .tc := ⟨.hbm, 252, rfl⟩
abbrev main_while0b_v203 : Ref sig .tc := ⟨.hbm, 253, rfl⟩
abbrev main_while0b_c_41 : Ref sig .tc := ⟨.hbm, 254, rfl⟩
abbrev main_while0b_v204 : Ref sig .tc := ⟨.hbm, 255, rfl⟩
abbrev main_while0b_cst_42 : Ref sig .tc := ⟨.hbm, 256, rfl⟩
abbrev main_while0b_v205 : Ref sig .tc := ⟨.hbm, 257, rfl⟩
abbrev main_while0b_v206 : Ref sig .tc := ⟨.hbm, 258, rfl⟩
abbrev main_while0b_v207 : Ref sig .tc := ⟨.hbm, 259, rfl⟩
abbrev main_while0b_v208 : Ref sig .tc := ⟨.hbm, 260, rfl⟩
abbrev main_while0b_v209 : Ref sig .tc := ⟨.hbm, 261, rfl⟩
abbrev main_while0b_v210 : Ref sig .tc := ⟨.hbm, 262, rfl⟩
abbrev main_while0b_v211 : Ref sig .tc := ⟨.hbm, 263, rfl⟩
abbrev main_while0b_v212 : Ref sig .tc := ⟨.hbm, 264, rfl⟩
abbrev main_while0b_v213 : Ref sig .tc := ⟨.hbm, 265, rfl⟩
abbrev main_while0b_v214 : Ref sig .tc := ⟨.hbm, 266, rfl⟩
abbrev main_while0b_v215 : Ref sig .tc := ⟨.hbm, 267, rfl⟩
abbrev main_while0b_c_43 : Ref sig .tc := ⟨.hbm, 268, rfl⟩
abbrev main_while0b_v216 : Ref sig .tc := ⟨.hbm, 269, rfl⟩
abbrev main_v176 : Ref sig .tc := ⟨.hbm, 270, rfl⟩
abbrev main_v177 : Ref sig .tc := ⟨.hbm, 271, rfl⟩
abbrev main_c_26 : Ref sig .tc := ⟨.hbm, 272, rfl⟩
abbrev main_call1_v0 : Ref sig .tc := ⟨.hbm, 273, rfl⟩
abbrev main_call1_v1 : Ref sig .tc := ⟨.hbm, 274, rfl⟩
abbrev main_call1_v2 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_c_27 : Ref sig .tc := ⟨.hbm, 279, rfl⟩
abbrev main_v181 : Ref sig .tc := ⟨.hbm, 280, rfl⟩
abbrev main_v182 : Ref sig .tc := ⟨.hbm, 281, rfl⟩
abbrev main_c_28 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_call3_c : Ref sig .tc := ⟨.hbm, 286, rfl⟩
abbrev main_call3_v0 : Ref sig .tc := ⟨.hbm, 287, rfl⟩
abbrev main_call3_v1 : Ref sig .tc := ⟨.hbm, 288, rfl⟩
abbrev main_call3_c_0 : Ref sig .tc := ⟨.hbm, 289, rfl⟩
abbrev main_call3_v2 : Ref sig .tc := ⟨.hbm, 290, rfl⟩
abbrev main_call3_v3 : Ref sig .tc := ⟨.hbm, 291, rfl⟩
abbrev main_call3_v4 : Ref sig .tc := ⟨.hbm, 292, rfl⟩
abbrev main_call3_c_1 : Ref sig .tc := ⟨.hbm, 293, rfl⟩
abbrev main_call3_c_2 : Ref sig .tc := ⟨.hbm, 294, rfl⟩
abbrev main_call3_v5 : Ref sig .tc := ⟨.hbm, 295, rfl⟩
abbrev main_call3_v6 : Ref sig .tc := ⟨.hbm, 296, rfl⟩
abbrev main_call3_v7 : Ref sig .tc := ⟨.hbm, 297, rfl⟩
abbrev main_call3_v8 : Ref sig .tc := ⟨.hbm, 298, rfl⟩
abbrev main_call3_v9 : Ref sig .tc := ⟨.hbm, 299, rfl⟩
abbrev main_call3_v10 : Ref sig .tc := ⟨.hbm, 300, rfl⟩
abbrev main_call3_c_3 : Ref sig .tc := ⟨.hbm, 301, rfl⟩
abbrev main_call3_v11 : Ref sig .tc := ⟨.hbm, 302, rfl⟩
abbrev main_call3_v12 : Ref sig .tc := ⟨.hbm, 303, rfl⟩
abbrev main_call3_v13 : Ref sig .tc := ⟨.hbm, 304, rfl⟩
abbrev main_call3_cst : Ref sig .tc := ⟨.hbm, 305, rfl⟩
abbrev main_call3_v14 : Ref sig .tc := ⟨.hbm, 306, rfl⟩
abbrev main_v186 : Ref sig .tc := ⟨.hbm, 307, rfl⟩
abbrev main_v187 : Ref sig .tc := ⟨.hbm, 308, rfl⟩
abbrev main_cst_29 : Ref sig .tc := ⟨.hbm, 309, rfl⟩
abbrev main_call4_v0 : Ref sig .tc := ⟨.hbm, 310, rfl⟩
abbrev main_call4_v1 : Ref sig .tc := ⟨.hbm, 311, rfl⟩
abbrev main_call4_v2 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩

abbrev nD : Nat := 1
abbrev τ : Topo := Topo.v7x

variable {F : FTy → Type} [FloatOps F]

abbrev main_while0_count : Scf.Loop 32 := ⟨0#32, 2000#32, 1#32⟩
-- ==== Proof.Mem.lean ====
/- Loads and stores of a kernel through a memref owned at known contents: what is read is the contents at the
   rectangle's indices, and what is left after a store is the contents with the rectangle overwritten. -/
module

public import Idealize.ShloMosaic.Lib.Pipeline.Frame

@[expose] public section

noncomputable section

namespace Cert.Mem

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- The array `x` at the indices of the rectangle `r`. -/
def get {α : Type} {s : Shape} (x : s.Idx → α) (r : Rect s) : r.shape.Idx → α := fun j => x (r.emb j)

/-- The array `x` with the rectangle `r` overwritten by `w`. -/
def put {α : Type} {s : Shape} (x : s.Idx → α) (r : Rect s) (w : r.shape.Idx → α) : s.Idx → α :=
  fun i => match preimage? r.emb i with
    | some j => w j
    | none => x i

theorem put_emb {α : Type} {s : Shape} (x : s.Idx → α) (r : Rect s) (w : r.shape.Idx → α) (j : r.shape.Idx) :
    put x r w (r.emb j) = w j := by
  simp [put, preimage?_emb]

theorem put_of_ne {α : Type} {s : Shape} (x : s.Idx → α) (r : Rect s) (w : r.shape.Idx → α) (i : s.Idx)
    (h : ∀ j, r.emb j ≠ i) : put x r w i = x i := by
  simp [put, preimage?_eq_none h]

section Steps

variable {Λ : Labels} {defs : Defs nD τ sig Val Λ} (𝒱 : Variants) (c : Thread nD τ) (bd : Option 𝒱.V) (E : Set Name)
variable {α : Type} {cs : CoreSpace} {s : Shape} {e : EltTy}

/-- A load from an owned memref reads its contents at the rectangle. -/
theorem load {Q : α → sProp 𝕄} {m : Memref sig c.2.kind cs s e} {r : Rect s} {hl : m.view.LoadsAt r.toLoadRect}
    {k : (r.shape.Idx → Val e) → Prog (TpuEff nD τ sig Val Λ c.2) α} {q : PosShare TreeShare} {x : s.Idx → Val e} :
    (owns c m q x : sProp 𝕄)
      ⊢ iprop((owns c m q x -∗ wp frame (wpE defs 𝒱 c bd) E (k (get x r)) Q)
        -∗ wp frame (wpE defs 𝒱 c bd) E (.op (.load m r.toLoadRect hl) k) Q) := by
  unfold owns
  iintro ⟨%f, %hf, H⟩ Hk
  have hS : m.view.setOn r.toLoadRect.set ⊆ m.view.set := Finset.map_subset_map.2 (Finset.subset_univ _)
  iapply (wp_load 𝒱 c bd E (m := m) (r := r.toLoadRect) (f := f) hS) $$ H
  iintro H
  have hv : m.view.readAt Val r.toLoadRect f = get x r := by
    funext j; subst hf; rfl
  rw [hv]
  iapply Hk
  iexists f; isplitr; · ipureintro; exact hf
  iexact H

/-- A whole store into an owned memref's rectangle overwrites the rectangle. -/
theorem store {Q : α → sProp 𝕄} {m : Memref sig c.2.kind cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {x : s.Idx → Val e} :
    (owns c m fullShare x : sProp 𝕄)
      ⊢ iprop((owns c m fullShare (put x r w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  have hS : (m.access r).setOn Finset.univ ⊆ m.view.set := by
    rw [View.setOn_univ, View.set_slice]; exact Finset.map_subset_map.2 (Finset.subset_univ _)
  iapply (wp_store 𝒱 c bd E (m := m) (r := r) (w := w) (Mk := Finset.univ) (f := f) hS) $$ H
  iintro H
  iapply Hk
  iexists _; isplitr; swap; · iexact H
  ipureintro
  funext i
  rw [View.read_apply]
  by_cases h : ∃ j, r.emb j = i
  · obtain ⟨j, rfl⟩ := h
    rw [put_emb]
    have := View.read_write_of_mem (v := m.access r) (Val := Val) f w (M := Finset.univ) (x := j) (Finset.mem_univ _)
    rw [← this, View.read_apply]; rfl
  · rw [put_of_ne _ _ _ _ (fun j hj => h ⟨j, hj⟩), ← hf, View.read_apply]
    congr 1
    apply View.write_of_not_mem
    rw [View.setOn_univ]
    intro hmem
    obtain ⟨j, _, hj⟩ := Finset.mem_map.1 hmem
    exact h ⟨j, m.view.emb.injective hj⟩

end Steps

end Cert.Mem

end
-- ==== Proof.KernelIdeal.Trip.lean ====
/- What one trip of the kernel's block loop computes, as plain functions of the array contents it reads. -/
module

public import proofs.«01_k».proof.Proof.Gen.KernelIdeal.Skeleton
public import proofs.«01_k».proof.Proof.Mem

@[expose] public section

noncomputable section

namespace Cert.KernelIdeal.Body

open Cert.KernelIdeal Cert.KernelIdeal.Gen Cert.Mem Idealize.ShloMosaic Idealize.SL.Sem

variable {F : FTy → Type} [FloatOps F]

/-- A block number as the machine word the loop counts with. -/
abbrev wd (j : Fin 16) : BitVec 32 := BitVec.ofNat 32 j.val

/-- Every block's rows lie inside the scratch arrays. -/
theorem chk : ∀ j : Fin 16, k0_chk1 (wd j) := by decide

/-- The zero word. -/
abbrev zf : F .f32 := Scalar.ofBits .f32 0x00000000#32

section Reads

variable (x5 : Vec F S5x16x128 .f32) (j : Fin 16)

/-- Row `j` of each of the five slabs: the block's corners and areas. -/
def rd1 : Vec F S1x1x128 .f32 := get x5 (Rect.unit (s := S5x16x128) (k0_off1 (wd j)) S1x1x128.size (k0_off1_inb _ (chk j)))
def rd2 : Vec F S1x1x128 .f32 := get x5 (Rect.unit (s := S5x16x128) (k0_off2 (wd j)) S1x1x128.size (k0_off2_inb _ (chk j)))
def rd3 : Vec F S1x1x128 .f32 := get x5 (Rect.unit (s := S5x16x128) (k0_off3 (wd j)) S1x1x128.size (k0_off3_inb _ (chk j)))
def rd4 : Vec F S1x1x128 .f32 := get x5 (Rect.unit (s := S5x16x128) (k0_off4 (wd j)) S1x1x128.size (k0_off4_inb _ (chk j)))
def rd5 : Vec F S1x1x128 .f32 := get x5 (Rect.unit (s := S5x16x128) (k0_off5 (wd j)) S1x1x128.size (k0_off5_inb _ (chk j)))

/-- The five slabs whole. -/
def sl1 : Vec F S1x16x128 .f32 := get x5 (Rect.unit (s := S5x16x128) ![0, 0, 0] S1x16x128.size inb_S5x16x128_S1x16x128_0_0_0)
def sl2 : Vec F S1x16x128 .f32 := get x5 (Rect.unit (s := S5x16x128) ![1, 0, 0] S1x16x128.size inb_S5x16x128_S1x16x128_1_0_0)
def sl3 : Vec F S1x16x128 .f32 := get x5 (Rect.unit (s := S5x16x128) ![2, 0, 0] S1x16x128.size inb_S5x16x128_S1x16x128_2_0_0)
def sl4 : Vec F S1x16x128 .f32 := get x5 (Rect.unit (s := S5x16x128) ![3, 0, 0] S1x16x128.size inb_S5x16x128_S1x16x128_3_0_0)
def sl5 : Vec F S1x16x128 .f32 := get x5 (Rect.unit (s := S5x16x128) ![4, 0, 0] S1x16x128.size inb_S5x16x128_S1x16x128_4_0_0)

/-- Which boxes of block `j` the kept boxes recorded in `x6` suppress. -/
def supB (x6 : Vec F S16x128 .f32) : FVec F S1x128 .f32 :=
  k0_pay58 (k0_pay48 (rd5 x5 j)) (k0_pay49 (sl1 x5)) (k0_pay50 (sl2 x5)) (k0_pay51 (sl3 x5)) (k0_pay52 (sl4 x5)) (k0_pay53 (sl5 x5))
    (k0_pay54 (rd1 x5 j)) (k0_pay55 (rd2 x5 j)) (k0_pay56 (rd3 x5 j)) (k0_pay57 (rd4 x5 j))
    (get x6 (Rect.unit (s := S16x128) ![0, 0] S16x128.size inb_S16x128_S16x128_0_0))

/-- The overlap test of every pair of boxes inside block `j`. -/
def ovl : FVec F S128x128 .f32 :=
  k0_pay65 k0_pay3 (k0_pay45 (rd2 x5 j)) (k0_pay46 (rd3 x5 j)) (k0_pay47 (rd4 x5 j)) (k0_pay48 (rd5 x5 j))
    (k0_pay59 k0_pay2 (k0_pay45 (rd2 x5 j))) (k0_pay60 k0_pay2 (k0_pay46 (rd3 x5 j))) (k0_pay61 k0_pay2 (k0_pay47 (rd4 x5 j)))
    (k0_pay62 k0_pay2 (k0_pay48 (rd5 x5 j))) (k0_pay63 k0_pay2 (k0_pay44 (rd1 x5 j))) (k0_pay64 (k0_pay44 (rd1 x5 j)))

end Reads

/-- Whole overwriting of the pair array: what it holds after the store. -/
def putO (d o : FVec F S128x128 .f32) : FVec F S128x128 .f32 :=
  put d (Rect.unit (s := S128x128) ![0, 0] S128x128.size inb_S128x128_S128x128_0_0) o

theorem putO_eq (d o : FVec F S128x128 .f32) : putO d o = o := by
  funext i
  have h : (Rect.unit (s := S128x128) ![0, 0] S128x128.size inb_S128x128_S128x128_0_0).emb i = i := by
    funext a; apply Fin.ext; rw [Rect.emb_apply]; fin_cases a <;> simp [Rect.unit]
  rw [putO]
  conv_lhs => rw [← h]
  rw [put_emb]

/-- Row `k` of the pair array. -/
def oRow (o : FVec F S128x128 .f32) (k : Fin k0_t1_loop.trips) : Vec F S1x128 .f32 :=
  get o (Rect.unit (s := S128x128) (k0_off6 k) S1x128.size (k0_off6_inb k))

/-- The suppression marks after `k` steps of the pass over the block's boxes. -/
def marks (o : FVec F S128x128 .f32) (s : FVec F S1x128 .f32) : ℕ → FVec F S1x128 .f32
  | 0 => s
  | k + 1 => if h : k < k0_t1_loop.trips then k0_pay66 k0_pay4 ⟨k, h⟩ (marks o s k) (oRow o ⟨k, h⟩) else marks o s k

/-- What the loop carries: the count of kept boxes so far, the four coordinate columns gathered, the keep marks. -/
structure St (F : FTy → Type) where
  cnt : F .f32
  a0 : FVec F S304x1 .f32
  a1 : FVec F S304x1 .f32
  a2 : FVec F S304x1 .f32
  a3 : FVec F S304x1 .f32
  keep : Vec F S16x128 .f32

/-- The keep marks of block `j` before masking out the padding. -/
def mk (x5 : Vec F S5x16x128 .f32) (j : Fin 16) (x6 : Vec F S16x128 .f32) : FVec F S1x128 .f32 :=
  k0_pay67 (marks (ovl x5 j) (supB x5 j x6) k0_t1_loop.trips)

/-- One trip of the block loop. -/
def step (x5 : Vec F S5x16x128 .f32) (j : Fin 16) (s : St F) : St F where
  cnt := k0_pay76 s.cnt (mk x5 j s.keep) (k0_pay68 (F := F) k0_pay4 (wd j)) zf
  a0 := k0_pay72 k0_pay3 k0_pay5 s.cnt s.a0 (k0_pay44 (rd1 x5 j)) (mk x5 j s.keep) (k0_pay68 (F := F) k0_pay4 (wd j)) zf
  a1 := k0_pay73 k0_pay3 k0_pay5 s.cnt s.a1 (k0_pay45 (rd2 x5 j)) (mk x5 j s.keep) (k0_pay68 (F := F) k0_pay4 (wd j)) zf
  a2 := k0_pay74 k0_pay3 k0_pay5 s.cnt s.a2 (k0_pay46 (rd3 x5 j)) (mk x5 j s.keep) (k0_pay68 (F := F) k0_pay4 (wd j)) zf
  a3 := k0_pay75 k0_pay3 k0_pay5 s.cnt s.a3 (k0_pay47 (rd4 x5 j)) (mk x5 j s.keep) (k0_pay68 (F := F) k0_pay4 (wd j)) zf
  keep := put s.keep (Rect.unit (s := S16x128) (k0_off7 (wd j)) S1x128.size (k0_off7_inb _ (chk j)))
    (k0_pay70 (mk x5 j s.keep) (k0_pay68 (F := F) k0_pay4 (wd j)) zf)

/-- The loop's second test: fewer than three hundred boxes kept so far. -/
def more (s : St F) : BitVec 1 := Scalar.cmpf .olt s.cnt (Scalar.ofBits (F := F) .f32 0x43960000#32)

/-- The loop's state when it stops, with `k` blocks left. -/
def run (x5 : Vec F S5x16x128 .f32) : (k : ℕ) → k ≤ 16 → St F → St F
  | 0, _, s => s
  | k + 1, h, s => if more s = 1#1 then run x5 k (by omega) (step x5 ⟨15 - k, by omega⟩ s) else s

/-- The loop's state at entry: nothing kept, nothing gathered, no marks. -/
def st0 : St F where
  cnt := zf
  a0 := k0_pay6
  a1 := k0_pay7
  a2 := k0_pay8
  a3 := k0_pay9
  keep := k0_pay1 zf

end Cert.KernelIdeal.Body

end
-- ==== Proof.KernelIdeal.While.lean ====
/- The kernel's block loop run by its specification: one trip is `step`, and the loop's label, entered with `k`
   blocks left, returns what `run` says. -/
module

public import proofs.«01_k».proof.Proof.KernelIdeal.Trip
public import proofs.«01_k».proof.Proof.Gen.KernelIdeal.Launch
public import Idealize.ShloMosaic.Lib.Pipeline.FrameBody
public import Idealize.ShloMosaic.Lib.Tactic
public import Idealize.ShloMosaic.Lib.Scf

@[expose] public section

noncomputable section

namespace Cert.KernelIdeal.Body

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option pp.maxSteps 60
local notation "𝕄" => MT nD τ sig Unit (Elt F) ℕ (UR sig nD τ) ℕ

/-- The scratch buffers as the body holds them. -/
abbrev M5 : Memref sig .tc .vmem S5x16x128 .f32 := Memref.whole cc0_scratch0
abbrev M6 : Memref sig .tc .vmem S16x128 .f32 := Memref.whole cc0_scratch1
abbrev M7 : Memref sig .tc .vmem S128x128 .f32 := Memref.whole cc0_scratch2

abbrev 𝒱₀ : Variants := Variants.nat

/-- The three scratch buffers: coordinates at `x5`, keep marks at `x6`, the pair array at anything. -/
def held (c : Dev nD) (x5 : Vec F S5x16x128 .f32) (x6 : Vec F S16x128 .f32) : sProp 𝕄 :=
  iprop(owns (c : Thread nD τ) M5 fullShare x5 ∗ owns (c : Thread nD τ) M6 fullShare x6
    ∗ (∃ d, owns (c : Thread nD τ) M7 fullShare d))

set_option maxHeartbeats 4000000 in
/-- One trip of the block loop, block `j`, from the state `s`. -/
theorem trip (c : Dev nD) (bd : Option 𝒱₀.V) (E : Set ℕ) (i : grid0.Coords) (x5 : Vec F S5x16x128 .f32) (j : Fin 16) (s : St F)
    (K : (Σ' (v366 : FVec F S304x1 .f32) (v371 : FVec F S304x1 .f32) (v376 : FVec F S304x1 .f32) (v381 : FVec F S304x1 .f32) (v382 : BitVec 32), F .f32) → sProp 𝕄) :
    iprop(held c x5 s.keep ∗ (held c x5 (step x5 j s).keep
        -∗ K ⟨(step x5 j s).a0, (step x5 j s).a1, (step x5 j s).a2, (step x5 j s).a3, Scalar.addi (wd j) 1#32, (step x5 j s).cnt⟩))
      ⊢ wp frame (wpE (defs₀ (F := F)) 𝒱₀ (c : Thread nD τ) bd) E
          (k0_part9 i M5 (Memref.isWhole_whole _) M6 (Memref.isWhole_whole _) k0_pay2 k0_pay3 M7 (Memref.isWhole_whole _) k0_pay4 k0_pay5
            (wd j) s.cnt s.a0 s.a1 s.a2 s.a3) K := by
  simp only [k0_part9_eq_skeleton, k0_part6_eq_skeleton, k0_part7_eq_skeleton, k0_part8_eq_skeleton]
  unfold k0_part9_skel
  simp only [k0_part6_eq_skeleton, k0_part7_eq_skeleton, k0_part8_eq_skeleton]
  unfold k0_part6_skel k0_part7_skel k0_part8_skel
  simp only [Prog.lift, Prog.bind_op, Prog.bind_ret, Prog.pure_eq_ret]
  unfold held
  iintro ⟨⟨H5, H6, ⟨%d7, H7⟩⟩, Hk⟩
  iapply (wp_assume 𝒱₀ (c : Thread nD τ) bd E (chk j))
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M5)) $$ H5; iintro H5
  iapply (load 𝒱₀ (c : Thread nD τ) bd E (m := M6)) $$ H6; iintro H6
  iapply (load 𝒱₀ (c : Thread nD τ) bd E (m := M7)) $$ H7; iintro H7
  iapply (store 𝒱₀ (c : Thread nD τ) bd E (m := M7)) $$ H7; iintro H7
  have e : ∀ o : FVec F S128x128 .f32, put d7 (Rect.unit (s := S128x128) ![0, 0] ![128, 128] inb_S128x128_S128x128_0_0) o = o := fun o => putO_eq d7 o
  rw [e, wp_bind]
  iapply (Scf.wp_for_bind Idealize.ShloMosaic.frame (wpE (defs₀ (F := F)) 𝒱₀ (c : Thread nD τ) bd) E _ _ _ _ _ _
    (fun k acc => iprop(owns (c : Thread nD τ) M7 fullShare (ovl x5 j) ∗ ⌜acc = marks (ovl x5 j) (supB x5 j s.keep) k⌝)) ?_) $$ [H7]
  · intro k acc
    unfold k0_t1_body
    simp only [Prog.lift, Prog.bind_op, Prog.bind_ret, Prog.pure_eq_ret]
    iintro ⟨H7, %hacc⟩
    iapply (load 𝒱₀ (c : Thread nD τ) bd E (m := M7)) $$ H7; iintro H7
    rw [wp_ret]; imodintro
    isplitl [H7]; · iexact H7
    ipureintro
    subst hacc
    rw [marks, dif_pos k.isLt]
    rfl
  · isplitl [H7]; · iexact H7
    ipureintro; rfl
  iintro %acc ⟨H7, %hacc⟩
  subst hacc
  simp only [Prog.bind_ret]
  rw [wp_ret]; imodintro
  iapply (load 𝒱₀ (c : Thread nD τ) bd E (m := M6)) $$ H6; iintro H6
  iapply (store 𝒱₀ (c : Thread nD τ) bd E (m := M6)) $$ H6; iintro H6
  rw [wp_ret]; imodintro
  simp only [step, mk, rd1, rd2, rd3, rd4, zf]
  iapply Hk
  isplitl [H5]; · iexact H5
  isplitl [H6]; · iexact H6
  iexists _; iexact H7

/-- What the label is asked with `k` blocks left in the state `s`: holding the buffers it returns some counters and the
    four gathered columns of `run`, the coordinates as they were, the marks at anything. -/
def spec (c : Dev nD) (x5 : Vec F S5x16x128 .f32) (k : ℕ) (hk : k ≤ 16) (s : St F) :
    sWPT 𝕄 (BitVec 32 × F .f32 × FVec F S304x1 .f32 × FVec F S304x1 .f32 × FVec F S304x1 .f32 × FVec F S304x1 .f32) := do
  sWPT.consume (held c x5 s.keep)
  let r ← sWPT.arbitrary
  sWPT.assume (r.2.2 = ((run x5 k hk s).a0, (run x5 k hk s).a1, (run x5 k hk s).a2, (run x5 k hk s).a3))
  sWPT.produce (held c x5 (run x5 k hk s).keep)
  pure r

theorem spec_apply (c : Dev nD) (x5 : Vec F S5x16x128 .f32) (k : ℕ) (hk : k ≤ 16) (s : St F)
    (K : BitVec 32 × F .f32 × FVec F S304x1 .f32 × FVec F S304x1 .f32 × FVec F S304x1 .f32 × FVec F S304x1 .f32 → sProp 𝕄) :
    spec c x5 k hk s K
      = iprop(held c x5 s.keep ∗ ∀ r : BitVec 32 × F .f32 × FVec F S304x1 .f32 × FVec F S304x1 .f32 × FVec F S304x1 .f32 × FVec F S304x1 .f32,
          ⌜r.2.2 = ((run x5 k hk s).a0, (run x5 k hk s).a1, (run x5 k hk s).a2, (run x5 k hk s).a3)⌝
            -∗ (held c x5 (run x5 k hk s).keep -∗ K r)) := rfl

theorem wd_succ : ∀ j : Fin 16, Scalar.addi (wd j) 1#32 = BitVec.ofNat 32 (j.val + 1) := by decide

theorem slt_all : ∀ j : Fin 16, Scalar.cmpi .slt (wd j) 16#32 = 1#1 := by decide

theorem andi_one (b : BitVec 1) : Scalar.andi 1#1 b = b := by revert b; decide

theorem andi_zero (b : BitVec 1) : Scalar.andi 0#1 b = 0#1 := by revert b; decide

set_option maxHeartbeats 4000000 in
/-- The label's body meets its specification, by induction on the number of blocks left. -/
theorem spec_le (c : Dev nD) (E : Set ℕ) (i : grid0.Coords) (x5 : Vec F S5x16x128 .f32) :
    ∀ k (hk : k ≤ 16) (s : St F) K, spec c x5 k hk s K
      ⊢ wp frame (wpE (defs₀ (F := F)) 𝒱₀ (c : Thread nD τ) (some k)) E
          (defs₀ (F := F) .tc 1 ⟨i, M5, Memref.isWhole_whole _, M6, Memref.isWhole_whole _, k0_pay2, k0_pay3, M7, Memref.isWhole_whole _,
            k0_pay4, k0_pay5, BitVec.ofNat 32 (16 - k), s.cnt, s.a0, s.a1, s.a2, s.a3⟩) K := by
  intro k
  induction k with
  | zero =>
    intro hk s K
    rw [spec_apply]
    show _ ⊢ wp frame (wpE (defs₀ (F := F)) 𝒱₀ (c : Thread nD τ) (some 0)) E
      (cc0_while1 i M5 (Memref.isWhole_whole _) M6 (Memref.isWhole_whole _) k0_pay2 k0_pay3 M7 (Memref.isWhole_whole _)
            k0_pay4 k0_pay5 (BitVec.ofNat 32 16) s.cnt s.a0 s.a1 s.a2 s.a3) K
    simp only [cc0_while1_eq_skeleton]; unfold cc0_while1_skel
    have ht : Scalar.cmpi .slt (BitVec.ofNat 32 16) 16#32 = 0#1 := by decide
    simp only [ht, andi_zero, show ¬ ((0#1 : BitVec 1) = 1#1) by decide, ↓reduceIte, Prog.pure_eq_ret]
    iintro ⟨H, Hk⟩
    rw [wp_ret]; imodintro
    iapply Hk
    · ipureintro; rfl
    · iexact H
  | succ k ih =>
    intro hk s K
    rw [spec_apply]
    show _ ⊢ wp frame (wpE (defs₀ (F := F)) 𝒱₀ (c : Thread nD τ) (some (k + 1))) E
      (cc0_while1 i M5 (Memref.isWhole_whole _) M6 (Memref.isWhole_whole _) k0_pay2 k0_pay3 M7 (Memref.isWhole_whole _)
            k0_pay4 k0_pay5 (BitVec.ofNat 32 (16 - (k + 1))) s.cnt s.a0 s.a1 s.a2 s.a3) K
    have hlt : 15 - k < 16 := by omega
    have hw : BitVec.ofNat 32 (16 - (k + 1)) = wd ⟨15 - k, by omega⟩ := by
      show _ = BitVec.ofNat 32 (15 - k); congr 1; omega
    have hw' : Scalar.addi (wd ⟨15 - k, by omega⟩) 1#32 = BitVec.ofNat 32 (16 - k) := by
      rw [wd_succ]; congr 1; show 15 - k + 1 = 16 - k; omega
    rw [hw]
    simp only [cc0_while1_eq_skeleton]; unfold cc0_while1_skel
    simp only [slt_all, andi_one]
    by_cases hm : more s = 1#1
    · have hm' := hm
      unfold more at hm
      have hr : run x5 (k + 1) hk s = run x5 k (by omega) (step x5 ⟨15 - k, by omega⟩ s) := by rw [run, if_pos hm']
      rw [hr]
      simp only [hm, ↓reduceIte]
      rw [wp_bind]
      iintro ⟨H, Hk⟩
      iapply (trip c (some (k + 1)) E i x5 ⟨15 - k, hlt⟩ s)
      isplitl [H]; · iexact H
      iintro H
      simp only [Prog.lift]
      rw [hw']
      iapply (wp_call_spec 𝒱₀ (c : Thread nD τ) (some (k + 1)) E (spec c x5 k (by omega) (step x5 ⟨15 - k, by omega⟩ s)) k
        (fun u hu => by cases hu; exact Nat.lt_succ_self k) (ih (by omega) (step x5 ⟨15 - k, by omega⟩ s)))
      rw [spec_apply]
      isplitl [H]; · iexact H
      iintro %r %hr H
      rw [wp_ret]; imodintro
      iapply Hk
      · ipureintro; exact hr
      · iexact H
    · have hm' := hm
      unfold more at hm
      have hr : run x5 (k + 1) hk s = s := by rw [run, if_neg hm']
      rw [hr]
      simp only [hm, ↓reduceIte, Prog.pure_eq_ret]
      iintro ⟨H, Hk⟩
      rw [wp_ret]; imodintro
      iapply Hk
      · ipureintro; rfl
      · iexact H

end Cert.KernelIdeal.Body

end
-- ==== Proof.KernelIdeal.Block.lean ====
/- The kernel body at a grid point: what it leaves in the output block, as a function of the three input blocks. -/
module

public import proofs.«01_k».proof.Proof.KernelIdeal.While

@[expose] public section

set_option pp.maxSteps 60

noncomputable section

namespace Cert.KernelIdeal.Body

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The coordinates -/

section Coords

variable (x0 : Vec F S1x4x16x128 .f32) (x1 : Vec F S1x16x128 .i32) (x2 : Vec F S1x8x128 .f32)

/-- The four delta planes, the index plane and the two rows of image bounds, as loaded. -/
def dl0 : Vec F S1x1x16x128 .f32 := get x0 (Rect.unit (s := S1x4x16x128) ![0, 0, 0, 0] S1x1x16x128.size inb_S1x4x16x128_S1x1x16x128_0_0_0_0)
def dl1 : Vec F S1x1x16x128 .f32 := get x0 (Rect.unit (s := S1x4x16x128) ![0, 1, 0, 0] S1x1x16x128.size inb_S1x4x16x128_S1x1x16x128_0_1_0_0)
def dl2 : Vec F S1x1x16x128 .f32 := get x0 (Rect.unit (s := S1x4x16x128) ![0, 2, 0, 0] S1x1x16x128.size inb_S1x4x16x128_S1x1x16x128_0_2_0_0)
def dl3 : Vec F S1x1x16x128 .f32 := get x0 (Rect.unit (s := S1x4x16x128) ![0, 3, 0, 0] S1x1x16x128.size inb_S1x4x16x128_S1x1x16x128_0_3_0_0)
def ixs : Vec F S1x16x128 .i32 := get x1 (Rect.unit (s := S1x16x128) ![0, 0, 0] S1x16x128.size inb_S1x16x128_S1x16x128_0_0_0)
def im0 : Vec F S1x1x128 .f32 := get x2 (Rect.unit (s := S1x8x128) ![0, 0, 0] S1x1x128.size inb_S1x8x128_S1x1x128_0_0_0)
def im1 : Vec F S1x1x128 .f32 := get x2 (Rect.unit (s := S1x8x128) ![0, 1, 0] S1x1x128.size inb_S1x8x128_S1x1x128_0_1_0)

/-- Width and height of the anchors. -/
def aw : FVec F S16x128 .f32 := k0_pay24 (k0_pay17 (ixs x1)) (k0_pay21 (k0_pay17 (ixs x1))) (k0_pay23 (k0_pay17 (ixs x1)))
def ah : FVec F S16x128 .f32 := k0_pay25 (k0_pay17 (ixs x1)) (k0_pay22 (k0_pay17 (ixs x1)))
/-- Their centres' columns and rows. -/
def cx : FVec F S16x128 .f32 := k0_pay26 (k0_pay20 (k0_pay16 (ixs x1)) (k0_pay18 (ixs x1)))
def cy : FVec F S16x128 .f32 := k0_pay19 (k0_pay18 (ixs x1))

/-- The five slabs the body stores: corners clipped to the image, and areas. -/
def w0 : FVec F S1x16x128 .f32 := k0_pay39 (k0_pay33 (k0_pay12 (dl0 x0)) (k0_pay14 (dl2 x0)) (aw x1) (cx x1) (im1 x2))
def w1 : FVec F S1x16x128 .f32 := k0_pay40 (k0_pay34 (k0_pay13 (dl1 x0)) (k0_pay15 (dl3 x0)) (cy x1) (ah x1) (im0 x2))
def w2 : FVec F S1x16x128 .f32 := k0_pay41 (k0_pay32 (im1 x2)) (k0_pay35 (k0_pay12 (dl0 x0)) (k0_pay14 (dl2 x0)) (aw x1) (cx x1)) k0_pay36
def w3 : FVec F S1x16x128 .f32 := k0_pay42 (k0_pay28 (k0_pay13 (dl1 x0)) (cy x1) (ah x1)) (k0_pay30 (k0_pay15 (dl3 x0)) (ah x1)) (k0_pay31 (im0 x2))
def w4 : FVec F S1x16x128 .f32 :=
  k0_pay43 (k0_pay28 (k0_pay13 (dl1 x0)) (cy x1) (ah x1)) (k0_pay30 (k0_pay15 (dl3 x0)) (ah x1)) (k0_pay31 (im0 x2)) (k0_pay32 (im1 x2))
    (k0_pay33 (k0_pay12 (dl0 x0)) (k0_pay14 (dl2 x0)) (aw x1) (cx x1) (im1 x2))
    (k0_pay34 (k0_pay13 (dl1 x0)) (k0_pay15 (dl3 x0)) (cy x1) (ah x1) (im0 x2))
    (k0_pay35 (k0_pay12 (dl0 x0)) (k0_pay14 (dl2 x0)) (aw x1) (cx x1)) k0_pay36

end Coords

/-- The place in one plane of a place in the stack. -/
def inPlane (i : S5x16x128.Idx) : S1x16x128.Idx := fun a => match a with
  | ⟨0, _⟩ => (0 : Fin 1) | ⟨1, _⟩ => i 1 | ⟨2, _⟩ => i 2 | ⟨_ + 3, h⟩ => absurd h (Nat.not_lt.2 (Nat.le_add_left 3 _))

/-- Five planes stacked. -/
def slabs (u0 u1 u2 u3 u4 : FVec F S1x16x128 .f32) : Vec F S5x16x128 .f32 := fun i =>
  if (i 0).val = 4 then u4 (inPlane i) else if (i 0).val = 3 then u3 (inPlane i) else if (i 0).val = 2 then u2 (inPlane i)
  else if (i 0).val = 1 then u1 (inPlane i) else u0 (inPlane i)

/-- Storing the five planes one after another leaves them stacked. -/
theorem put_slabs (d : Vec F S5x16x128 .f32) (u0 u1 u2 u3 u4 : FVec F S1x16x128 .f32) :
    put (put (put (put (put d (Rect.unit (s := S5x16x128) ![0, 0, 0] S1x16x128.size inb_S5x16x128_S1x16x128_0_0_0) u0)
      (Rect.unit (s := S5x16x128) ![1, 0, 0] S1x16x128.size inb_S5x16x128_S1x16x128_1_0_0) u1)
      (Rect.unit (s := S5x16x128) ![2, 0, 0] S1x16x128.size inb_S5x16x128_S1x16x128_2_0_0) u2)
      (Rect.unit (s := S5x16x128) ![3, 0, 0] S1x16x128.size inb_S5x16x128_S1x16x128_3_0_0) u3)
      (Rect.unit (s := S5x16x128) ![4, 0, 0] S1x16x128.size inb_S5x16x128_S1x16x128_4_0_0) u4 = slabs u0 u1 u2 u3 u4 := by
  have key : ∀ (k : ℕ) (hk : ∀ a, (![k, 0, 0] : Fin 3 → ℕ) a + S1x16x128.size a ≤ S5x16x128.size a) (x : Vec F S5x16x128 .f32) (u : FVec F S1x16x128 .f32)
      (i : S5x16x128.Idx), put x (Rect.unit (s := S5x16x128) ![k, 0, 0] S1x16x128.size hk) u i
        = if (i 0).val = k then u (inPlane i) else x i := by
    intro k hk x u i
    split
    · next h =>
      have e : i = (Rect.unit (s := S5x16x128) ![k, 0, 0] S1x16x128.size hk).emb (inPlane i) := by
        funext a; apply Fin.ext; rw [Rect.emb_apply]
        match a with
        | ⟨0, _⟩ => simpa [Rect.unit, inPlane] using h
        | ⟨1, _⟩ => simp [Rect.unit, inPlane]
        | ⟨2, _⟩ => simp [Rect.unit, inPlane]
      conv_lhs => rw [e]
      rw [put_emb]
    · next h =>
      apply put_of_ne
      intro j hj
      apply h
      have h0 : (j 0).val < 1 := (j 0).isLt
      rw [← hj, Rect.emb_apply]
      show k + 1 * (j 0).val = k
      omega
  funext i
  have hi : (i 0).val < 5 := (i 0).isLt
  simp only [key, slabs]
  split_ifs <;> first | rfl | (exfalso; omega)

/-- The coordinates as the block loop finds them. -/
def coords (x0 : Vec F S1x4x16x128 .f32) (x1 : Vec F S1x16x128 .i32) (x2 : Vec F S1x8x128 .f32) : Vec F S5x16x128 .f32 :=
  slabs (w0 x0 x1 x2) (w1 x0 x1 x2) (w2 x0 x1 x2) (w3 x0 x1 x2) (w4 x0 x1 x2)

/-- The output block: the batch number and the four gathered columns. -/
def outBlk (i : grid0.Coords) (x0 : Vec F S1x4x16x128 .f32) (x1 : Vec F S1x16x128 .i32) (x2 : Vec F S1x8x128 .f32) : Vec F S1x300x5 .f32 :=
  k0_pay10 (BitVec.ofNat 32 (i 0).val) (run (coords x0 x1 x2) 16 le_rfl st0).a0 (run (coords x0 x1 x2) 16 le_rfl st0).a1
    (run (coords x0 x1 x2) 16 le_rfl st0).a2 (run (coords x0 x1 x2) 16 le_rfl st0).a3

/-- Storing the keep array whole leaves what was stored. -/
theorem put6_eq (d o : FVec F S16x128 .f32) :
    put d (Rect.unit (s := S16x128) ![0, 0] S16x128.size inb_S16x128_S16x128_0_0) o = o := by
  funext i
  have h : (Rect.unit (s := S16x128) ![0, 0] S16x128.size inb_S16x128_S16x128_0_0).emb i = i := by
    funext a; apply Fin.ext; rw [Rect.emb_apply]; fin_cases a <;> simp [Rect.unit]
  conv_lhs => rw [← h]
  rw [put_emb]

/-- Storing the output block whole leaves what was stored. -/
theorem put4_eq (d o : FVec F S1x300x5 .f32) :
    put d (Rect.unit (s := S1x300x5) ![0, 0, 0] S1x300x5.size inb_S1x300x5_S1x300x5_0_0_0) o = o := by
  funext i
  have h : (Rect.unit (s := S1x300x5) ![0, 0, 0] S1x300x5.size inb_S1x300x5_S1x300x5_0_0_0).emb i = i := by
    funext a; apply Fin.ext; rw [Rect.emb_apply]; fin_cases a <;> simp [Rect.unit]
  conv_lhs => rw [← h]
  rw [put_emb]

set_option maxHeartbeats 4000000 in
/-- The kernel body: from its inputs' blocks it leaves `outBlk` in the output's. -/
theorem body (c : Dev nD) (E : Set ℕ) (i : grid0.Coords) (a1 : Memref sig .tc .vmem S1x4x16x128 .f32) (h1 : a1.IsWhole)
    (a2 : Memref sig .tc .vmem S1x16x128 .i32) (h2 : a2.IsWhole) (a3 : Memref sig .tc .vmem S1x8x128 .f32) (h3 : a3.IsWhole)
    (a4 : Memref sig .tc .vmem S1x300x5 .f32) (h4 : a4.IsWhole)
    (x0 : Vec F S1x4x16x128 .f32) (x1 : Vec F S1x16x128 .i32) (x2 : Vec F S1x8x128 .f32) (K : PUnit → sProp 𝕄) :
    iprop(owns (c : Thread nD τ) a1 fullShare x0 ∗ owns (c : Thread nD τ) a2 fullShare x1 ∗ owns (c : Thread nD τ) a3 fullShare x2
      ∗ (∃ d, owns (c : Thread nD τ) a4 fullShare d)
      ∗ (∃ d, owns (c : Thread nD τ) M5 fullShare d) ∗ (∃ d, owns (c : Thread nD τ) M6 fullShare d) ∗ (∃ d, owns (c : Thread nD τ) M7 fullShare d)
      ∗ (iprop(owns (c : Thread nD τ) a1 fullShare x0 ∗ owns (c : Thread nD τ) a2 fullShare x1 ∗ owns (c : Thread nD τ) a3 fullShare x2
          ∗ owns (c : Thread nD τ) a4 fullShare (outBlk i x0 x1 x2)
          ∗ (∃ d, owns (c : Thread nD τ) M5 fullShare d) ∗ (∃ d, owns (c : Thread nD τ) M6 fullShare d) ∗ (∃ d, owns (c : Thread nD τ) M7 fullShare d)) -∗ K ⟨⟩))
      ⊢ wp frame (wpE (defs₀ (F := F)) 𝒱₀ (c : Thread nD τ) none) E
          (cc0__nms_body i a1 h1 a2 h2 a3 h3 a4 h4 M5 (Memref.isWhole_whole _) M6 (Memref.isWhole_whole _) M7 (Memref.isWhole_whole _)) K := by
  simp only [cc0__nms_body_eq_skeleton]
  unfold cc0__nms_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨H1, H2, H3, ⟨%d4, H4⟩, ⟨%d5, H5⟩, ⟨%d6, H6⟩, H7, Hk⟩
  iapply (load 𝒱₀ (c : Thread nD τ) none E (m := a2)) $$ H2; iintro H2
  iapply (load 𝒱₀ (c : Thread nD τ) none E (m := a1)) $$ H1; iintro H1
  iapply (load 𝒱₀ (c : Thread nD τ) none E (m := a1)) $$ H1; iintro H1
  iapply (load 𝒱₀ (c : Thread nD τ) none E (m := a1)) $$ H1; iintro H1
  iapply (load 𝒱₀ (c : Thread nD τ) none E (m := a1)) $$ H1; iintro H1
  iapply (load 𝒱₀ (c : Thread nD τ) none E (m := a3)) $$ H3; iintro H3
  iapply (load 𝒱₀ (c : Thread nD τ) none E (m := a3)) $$ H3; iintro H3
  iapply (load 𝒱₀ (c : Thread nD τ) none E (m := M5)) $$ H5; iintro H5
  iapply (store 𝒱₀ (c : Thread nD τ) none E (m := M5)) $$ H5; iintro H5
  iapply (load 𝒱₀ (c : Thread nD τ) none E (m := M5)) $$ H5; iintro H5
  iapply (store 𝒱₀ (c : Thread nD τ) none E (m := M5)) $$ H5; iintro H5
  iapply (load 𝒱₀ (c : Thread nD τ) none E (m := M5)) $$ H5; iintro H5
  iapply (store 𝒱₀ (c : Thread nD τ) none E (m := M5)) $$ H5; iintro H5
  iapply (load 𝒱₀ (c : Thread nD τ) none E (m := M5)) $$ H5; iintro H5
  iapply (store 𝒱₀ (c : Thread nD τ) none E (m := M5)) $$ H5; iintro H5
  iapply (load 𝒱₀ (c : Thread nD τ) none E (m := M5)) $$ H5; iintro H5
  iapply (store 𝒱₀ (c : Thread nD τ) none E (m := M5)) $$ H5; iintro H5
  have e5 := put_slabs d5 (w0 x0 x1 x2) (w1 x0 x1 x2) (w2 x0 x1 x2) (w3 x0 x1 x2) (w4 x0 x1 x2)
  change _ = coords x0 x1 x2 at e5
  simp only [w0, w1, w2, w3, w4, aw, ah, cx, cy, dl0, dl1, dl2, dl3, ixs, im0, im1] at e5
  rw [e5]
  iapply (load 𝒱₀ (c : Thread nD τ) none E (m := M6)) $$ H6; iintro H6
  iapply (store 𝒱₀ (c : Thread nD τ) none E (m := M6)) $$ H6; iintro H6
  have e6 : ∀ o : FVec F S16x128 .f32, put d6 (Rect.unit (s := S16x128) ![0, 0] ![16, 128] inb_S16x128_S16x128_0_0) o = o := fun o => put6_eq d6 o
  rw [e6]
  iapply (wp_call_spec 𝒱₀ (c : Thread nD τ) none E (spec c (coords x0 x1 x2) 16 le_rfl st0) 16
        (fun u hu => nomatch hu) (spec_le c E i (coords x0 x1 x2) 16 le_rfl st0))
  rw [spec_apply]
  unfold held
  isplitl [H5 H6 H7]
  · isplitl [H5]; · iexact H5
    isplitl [H6]; · iexact H6
    iexact H7
  iintro %r %hr ⟨H5, H6, H7⟩
  obtain ⟨b0, b1, b2, b3, b4, b5⟩ := r
  obtain ⟨rfl, rfl, rfl, rfl⟩ : b2 = _ ∧ b3 = _ ∧ b4 = _ ∧ b5 = _ := by simpa using hr
  dsimp only
  iapply (load 𝒱₀ (c : Thread nD τ) none E (m := a4)) $$ H4; iintro H4
  iapply (store 𝒱₀ (c : Thread nD τ) none E (m := a4)) $$ H4; iintro H4
  have e4 : ∀ o : FVec F S1x300x5 .f32, put d4 (Rect.unit (s := S1x300x5) ![0, 0, 0] ![1, 300, 5] inb_S1x300x5_S1x300x5_0_0_0) o = o := fun o => put4_eq d4 o
  rw [e4, wp_ret]; imodintro
  iapply Hk
  isplitl [H1]; · iexact H1
  isplitl [H2]; · iexact H2
  isplitl [H3]; · iexact H3
  isplitl [H4]; · iexact H4
  isplitl [H5]; · iexists _; iexact H5
  isplitl [H6]; · iexists _; iexact H6
  iexact H7

end Cert.KernelIdeal.Body

end
-- ==== Proof.KernelIdeal.Frame.lean ====
/- The launch: the pipeline's proof data, the body's obligation at every grid point, the run, and the arguments
   unchanged at its end. -/
module

public import proofs.«01_k».proof.Proof.KernelIdeal.Block
public import proofs.«01_k».proof.Proof.Gen.KernelIdeal.Points
public import Idealize.ShloMosaic.Lib.Ring
public import Idealize.ShloMosaic.Lib.WordCmp

@[expose] public section

set_option maxRecDepth 16384
set_option pp.maxSteps 100

noncomputable section

namespace Cert.KernelIdeal.Body

open Cert.KernelIdeal Cert.KernelIdeal.Gen Cert.Mem
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the region -/

/-- The host operations before the region, in their runs. -/
abbrev hostRuns : List (List (HloOp τ sig (Elt F))) :=
  [hostOps0, hostOps0_1, hostOps0_2, hostOps0_3, hostOps0_4, hostOps0_5, hostOps0_6, hostOps0_7]

/-- A core's buffers when the region is entered. -/
abbrev V (c : Dev nD) (b : Ref sig .tc) : Buf (Elt F) ((c : Thread nD τ).loc b) :=
  StableHlo.after (List.flatten hostRuns) (fun b => m (c, b)) b

/-- No host operation needs a fresh buffer. -/
theorem host_fresh : (hostRuns (F := F)).Forall fun ops => ops.Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostRuns
    (by simp only [List.Forall]; exact ⟨hostOps0_sub, hostOps0_1_sub, hostOps0_2_sub, hostOps0_3_sub, hostOps0_4_sub, hostOps0_5_sub, hostOps0_6_sub, hostOps0_7_sub⟩)
    host_fresh main_chain

/-- The argument arrays are no host operation's result. -/
theorem args_unwritten {b : Ref sig .tc} (hb : b = main_arg0 ∨ b = main_arg1 ∨ b = main_arg2) (c : Dev nD) :
    V m c b = m ((c : Thread nD τ).loc b) := by
  refine StableHlo.after_of_forall_not_mem (b := Proc.devRef .tc b) _ _ (List.forall_iff_forall_mem.mp ?_)
  simp only [hostRuns, hostOps0, hostOps0_1, hostOps0_2, hostOps0_3, hostOps0_4, hostOps0_5, hostOps0_6, hostOps0_7,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl
  all_goals repeat' apply And.intro
  all_goals exact StableHlo.devRef_ne_of_ne (by decide)

/-! ## The windows' blocks -/

/-- Window `w`'s block at point `t`, off its array as the region finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

abbrev ms0 (t : Fin (cfg0 (F := F)).N) : Memref sig .tc .vmem S1x4x16x128 .f32 := win0_0.stage ((cfg0 (F := F)).slots t 0)
abbrev ms1 (t : Fin (cfg0 (F := F)).N) : Memref sig .tc .vmem S1x16x128 .i32 := win0_1.stage ((cfg0 (F := F)).slots t 1)
abbrev ms2 (t : Fin (cfg0 (F := F)).N) : Memref sig .tc .vmem S1x8x128 .f32 := win0_2.stage ((cfg0 (F := F)).slots t 2)
abbrev ms3 (t : Fin (cfg0 (F := F)).N) : Memref sig .tc .vmem S1x300x5 .f32 := win0_3.stage ((cfg0 (F := F)).slots t 3)

/-- What the body leaves in the output's buffer at point `t`. -/
def outAt (c : Dev nD) (t : Fin (cfg0 (F := F)).N) : Vec F S1x300x5 .f32 :=
  outBlk ((cfg0 (F := F)).grid.coords t) (iblk m c 0 t) (iblk m c 1 t) (iblk m c 2 t)

/-- The pipeline's proof data: arrays as found, inputs' buffers left at their blocks, the output's at `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = outAt m c t := by dsimp only [dats]; rfl

/-- Every point fetches every input, so its buffer holds its block. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The region's invariant: the three scratch buffers at some contents and the generator register. -/
theorem inv_eq (c : Dev nD) :
    (Pipeline.ΦA spec0 c : sProp 𝕄)
      = iprop(iprop((∃ d, owns (c : Thread nD τ) M5 fullShare d) ∗ (∃ d, owns (c : Thread nD τ) M6 fullShare d)
          ∗ (∃ d, owns (c : Thread nD τ) M7 fullShare d)) ∗ (∃ r, prngReg c r)) := by
  unfold Pipeline.ΦA; rw [scopedRest0_eq]; simp only [M5, M6, M7, owns_whole]; try rfl

/-! ## The body's obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin (cfg0 (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, inv_eq]
  iintro ⟨⟨⟨HS0, HS1, HS2⟩, Hg⟩, Ho, ⟨%d0, H0⟩, ⟨%d1, H1⟩, ⟨%d2, H2⟩, ⟨%d3, H3⟩⟩
  iapply (body c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- After the run the arguments are as launched. -/
theorem kept {b : Ref sig .tc} (hb : b = main_arg0 ∨ b = main_arg1 ∨ b = main_arg2)
    (r : PUnit × MemSt nD τ sig (Elt F)) (h : Pipeline.FramePost cfgs (dats m) 0 (V m) r) (c : Dev nD) :
    r.2.mem ((c : Thread nD τ).loc b) = m ((c : Thread nD τ).loc b) := by
  refine Eq.trans ((h c).2 b ?_) (args_unwritten m hb c)
  rcases hb with rfl | rfl | rfl <;> exact Pipeline.mem_restRefs_of _ (by decide) (by show ∀ w : Fin 4, (spec0 w).arr.view.ref ≠ _; decide)

/-- Every execution ends with the arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨kept m (.inl rfl) r h.1 c, kept m (.inr (.inl rfl)) r h.1 c,
    kept m (.inr (.inr rfl)) r h.1 c⟩, h.2⟩) (run_quiet m ρ)

end Cert.KernelIdeal.Body

end
-- ==== Proof.Reference.Frame.lean ====
/- The reference leaves its arguments as launched: none of its operations, before, in or after its loop, writes them. -/
module

public import proofs.«01_k».proof.Proof.Gen.ReferenceIdeal.Run
public import Idealize.ShloMosaic.Lib.Quiescent

@[expose] public section

set_option maxRecDepth 100000

noncomputable section

namespace Cert.ReferenceIdeal.Host

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- A stretch that does not write the reference `b`. -/
def Spares (b : Ref sig .tc) (ops : List (HloOp τ sig (Elt F))) : Prop :=
  ops.Forall fun op => Proc.devRef .tc b ∉ op.writes

theorem after_spared {b : Ref sig .tc} {ops : List (HloOp τ sig (Elt F))} (h : Spares b ops) (V : Valuation τ sig (Elt F)) :
    after ops V (Proc.devRef .tc b) = V (Proc.devRef .tc b) :=
  after_of_forall_not_mem ops V (List.forall_iff_forall_mem.mp h)

theorem afterL_spared {b : Ref sig .tc} : ∀ {items : List (List (HloOp τ sig (Elt F)))}, (∀ ops ∈ items, Spares b ops) →
    ∀ V : Valuation τ sig (Elt F), afterL items V (Proc.devRef .tc b) = V (Proc.devRef .tc b)
  | [], _, _ => rfl
  | ops :: rest, h, V => by
    rw [afterL_cons, afterL_spared (fun o ho => h o (List.mem_cons_of_mem _ ho)), after_spared (h ops List.mem_cons_self)]

/-- An argument of @main. -/
abbrev IsArg (b : Ref sig .tc) : Prop := b = main_arg0 ∨ b = main_arg1 ∨ b = main_arg2

theorem spares_of {b : Ref sig .tc} (hb : IsArg b) {ops : List (HloOp τ sig (Elt F))} {W : List (Ref sig .tc)}
    (h : ops.map HloOp.writes = W.map fun r => {Proc.devRef (τ := τ) .tc r})
    (h0 : main_arg0 ∉ W) (h1 : main_arg1 ∉ W) (h2 : main_arg2 ∉ W) : Spares b ops := by
  have hW := forall_writes_sub_of_map h
  refine List.forall_iff_forall_mem.mpr fun op hop hm => ?_
  obtain ⟨y, hy, he⟩ := List.mem_map.mp (List.mem_toFinset.mp ((List.forall_iff_forall_mem.mp hW) op hop hm))
  have := Proc.devRef_injective _ he
  rcases hb with rfl | rfl | rfl <;> simp_all

theorem pre_spared {b : Ref sig .tc} (hb : IsArg b) : ∀ ops ∈ preI (F := F), Spares b ops := by
  intro ops h
  simp only [preI, List.mem_cons, List.not_mem_nil, or_false] at h
  rcases h with rfl | rfl | rfl
  · exact spares_of hb (W := hostOps0_W) rfl (by decide) (by decide) (by decide)
  · exact spares_of hb (W := hostOps0_1_W) rfl (by decide) (by decide) (by decide)
  · exact spares_of hb (W := hostOps0_2_W) rfl (by decide) (by decide) (by decide)

theorem body_spared {b : Ref sig .tc} (hb : IsArg b) : ∀ ops ∈ bodyI (F := F), Spares b ops := by
  intro ops h
  simp only [bodyI, List.mem_cons, List.not_mem_nil, or_false] at h
  subst h
  exact spares_of hb (W := while0Ops0_W) rfl (by decide) (by decide) (by decide)

theorem cond_spared {b : Ref sig .tc} (hb : IsArg b) : Spares b (condOps (F := F)) :=
  spares_of hb (W := condOps_W) rfl (by decide) (by decide) (by decide)

theorem post_spared {b : Ref sig .tc} (hb : IsArg b) : ∀ ops ∈ postI (F := F), Spares b ops := by
  intro ops h
  simp only [postI, List.mem_cons, List.not_mem_nil, or_false] at h
  rcases h with rfl | rfl | rfl | rfl | rfl | rfl | rfl | rfl
  all_goals
    simp only [Spares, List.Forall, nullary_writes, unary_writes, binary_writes, ternary_writes, quaternary_writes, reshape_writes,
      binaryIndexed_writes, nary_writes, unaryIndexed_writes, Finset.mem_singleton]
    rcases hb with rfl | rfl | rfl
    all_goals repeat' apply And.intro
    all_goals exact devRef_ne_of_ne (by decide)

theorem final_arg (m : (ℓ : Loc nD τ sig) → Buf (Elt F) ℓ) (c : Dev nD) {b : Ref sig .tc} (hb : IsArg b) :
    finalContents condOps preI bodyI postI 2000 m c (Proc.devRef .tc b) = m ((c.tc : Thread nD τ).loc b) := by
  have ht : ∀ k, atTrip condOps bodyI (entryContents preI m) k c (Proc.devRef .tc b) = m ((c.tc : Thread nD τ).loc b) := by
    intro k
    induction k with
    | zero => rw [atTrip_zero]; exact afterL_spared (pre_spared hb) _
    | succ k ih => rw [atTrip_succ, afterL_spared (body_spared hb), after_spared (cond_spared hb), ih]
  show afterL postI _ _ = _
  rw [afterL_spared (post_spared hb), after_spared (cond_spared hb), ht]

/-- Every execution ends with the arguments as launched and every semaphore counter (there is none) at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => ⟨(h c main_arg0 rfl).trans (final_arg m c (.inl rfl)),
    (h c main_arg1 rfl).trans (final_arg m c (.inr (.inl rfl))), (h c main_arg2 rfl).trans (final_arg m c (.inr (.inr rfl)))⟩,
    sem_eq_zero_of_no_sems (by decide) _⟩) (run_fold m ρ)

end Cert.ReferenceIdeal.Host

end
-- ==== Proof.Lookup.lean ====
/- The host operations both programs choose and read proposals with: the order a stable top-k puts scores in, and rows
   looked up by number. -/
module

public import Idealize.ShloMosaic.Lib.SortFacts
public import Idealize.ShloMosaic.Lib.WordCmp
public import Idealize.ShloMosaic.Lib.Pointwise
public import Idealize.ShloMosaic.PureOps.Ideal.Laws

@[expose] public section

noncomputable section

namespace Cert.Lookup

open Idealize.ShloMosaic

/-- The place of the `k`-th greatest of `n` scores, equal ones in order. -/
def ord {n : ℕ} (x : Fin n → EReal) (k : Fin n) : Fin n :=
  sortedFrom (fun a b => FloatOps.cmpfTotal (F := Ideal) (φ := .f32) .gt (x a) (x b) == 1#1) k

/-- The places a top-k names. -/
theorem topK_at {n k : ℕ} (hk : k ≤ n) (x : (⟨2, ![2, n]⟩ : Shape).Idx → EReal)
    (h : (⟨2, ![2, n]⟩ : Shape).Slices (fun _ => 0) ⟨2, ![2, k]⟩) (b : Fin 2) (s : Fin k) :
    (Host.topK (s := ⟨2, ![2, n]⟩) ⟨2, ![2, k]⟩ 1 (FloatOps.cmpfTotal (F := Ideal) (φ := .f32) .gt) x h).2 (ix2 b s)
      = BitVec.ofNat 32 (ord (fun q => x (ix2 b q)) (s.castLE hk)).val := by
  unfold Host.topK Host.sort2
  simp only [show (1 : ℕ) < 2 from by decide, dite_true]
  have e : ∀ y : (⟨2, ![2, n]⟩ : Shape).Idx → BitVec 32, extractStridedSlice ⟨2, ![2, k]⟩ (fun _ => 0) y h (ix2 b s) = y (ix2 b (s.castLE hk)) := by
    intro y
    rw [extractStridedSlice_apply]
    intro a
    show (ix2 b (s.castLE hk) a).val = 0 + (ix2 b s a).val
    rw [Nat.zero_add]
    fin_cases a <;> rfl
  rw [e]
  have ea : ∀ q : Fin n, (ix2 b (s.castLE hk) : (⟨2, ![2, n]⟩ : Shape).Idx).along (1 : Fin 2) q = ix2 b q := by
    intro q
    funext a
    fin_cases a <;> rfl
  show BitVec.ofNat 32 (sortedFrom (n := n) (fun a b' => FloatOps.cmpfTotal (F := Ideal) (φ := .f32) .gt
      (x ((ix2 b (s.castLE hk) : (⟨2, ![2, n]⟩ : Shape).Idx).along (1 : Fin 2) a)) (x ((ix2 b (s.castLE hk) : (⟨2, ![2, n]⟩ : Shape).Idx).along (1 : Fin 2) b')) == 1#1) (s.castLE hk)).val = _
  simp only [ea]
  rfl

/-- One batch's foreground scores, by anchor number. -/
def sc (a0 : (⟨5, ![2, 2, 9, 64, 64]⟩ : Shape).Idx → EReal) (b : Fin 2) (q : Fin 36864) : EReal :=
  a0 (ix5 b 1 ⟨q.val % 9, by omega⟩ ⟨q.val / 9 / 64, by omega⟩ ⟨q.val / 9 % 64, by omega⟩)

/-- One anchor's deltas. -/
def dl (a1 : (⟨4, ![2, 36, 64, 64]⟩ : Shape).Idx → EReal) (b : Fin 2) (N : Fin 36864) (q : Fin 4) : EReal :=
  a1 (ix4 b ⟨N.val % 9 * 4 + q.val, by omega⟩ ⟨N.val / 9 / 64, by omega⟩ ⟨N.val / 9 % 64, by omega⟩)

/-- The anchor of the `s`-th greatest foreground score. -/
def pos (a0 : (⟨5, ![2, 2, 9, 64, 64]⟩ : Shape).Idx → EReal) (b : Fin 2) (s : Fin 2000) : Fin 36864 :=
  ord (sc a0 b) (s.castLE (by omega))

/-- A number that is not negative is not counted from the end. -/
theorem not_from_end {α : Type} {N : ℕ} (hN : N < 2147483648) (x y : α) :
    Scalar.select (IntOp.cmpi .slt (BitVec.ofNat 32 N) 0#32) x y = y := by
  rw [show (0#32) = BitVec.ofNat 32 0 from rfl, WordCmp.cmpi_slt_ofNat (by omega) (by omega), decide_eq_false (by omega)]
  rfl

/-- A number up to `M` passes the range test. -/
theorem passes {N M : ℕ} (h : N ≤ M) (hM : M < 2147483648) :
    IntOp.andi (IntOp.cmpi .sge (BitVec.ofNat 32 N) 0#32) (IntOp.cmpi .sle (BitVec.ofNat 32 N) (BitVec.ofNat 32 M)) = 1#1 := by
  rw [show (0#32) = BitVec.ofNat 32 0 from rfl, WordCmp.cmpi_sge_ofNat (by omega) (by omega), WordCmp.cmpi_sle_ofNat (by omega) (by omega),
    decide_eq_true (by omega), decide_eq_true (by omega)]
  rfl

/-- The tests of one entry's one coordinate, all together. -/
theorem fold_one (f : Fin 1 → BitVec 1) (h : f 0 = 1#1) : Finset.fold IntOp.andi 1#1 f Finset.univ = 1#1 := by
  rw [show (Finset.univ : Finset (Fin 1)) = {0} from rfl, Finset.fold_singleton, h]
  rfl

/-- A row looked up by its number. -/
theorem gather_at {n k : ℕ} (wf) (x : (⟨3, ![2, n, 4]⟩ : Shape).Idx → EReal) (idx : IVec ⟨3, ![2, k, 1]⟩ 32)
    (b : Fin 2) (s : Fin k) (q : Fin 4) (N : ℕ) (hN : N < n) (hn : n < 2147483648) (h : idx (ix3 b s 0) = BitVec.ofNat 32 N) :
    Host.gather (s := ⟨3, ![2, n, 4]⟩) (si := ⟨3, ![2, k, 1]⟩) (t := ⟨3, ![2, k, 4]⟩) ⟨[2], [1], [0], [0], [1], 2, ![1, 1, 4], wf⟩ x idx (ix3 b s q) = x (ix3 b ⟨N, hN⟩ q) := by
  unfold Host.gather
  congr 1
  funext a
  apply Fin.ext
  set d : GatherDims ⟨3, ![2, n, 4]⟩ ⟨3, ![2, k, 1]⟩ ⟨3, ![2, k, 4]⟩ := ⟨[2], [1], [0], [0], [1], 2, ![1, 1, 4], wf⟩ with hd
  have hs : d.sKept = [2] := by rfl
  have hi : d.siKept = [0, 1] := by rfl
  have hb : d.batchDims = [0, 1] := by rfl
  show d.start (ix3 b s q) idx a + d.batchCoord (ix3 b s q) a + d.offCoord (ix3 b s q) a = (ix3 b ⟨N, hN⟩ q a).val
  have h0 : ∀ (c : Fin 3) (hc : c ∈ d.siKept) , (d.siCoord (ix3 b s q) c hc).val = (ix3 b s (0 : Fin 1) c).val := by
    intro c hc
    have hc' := hc
    rw [hi] at hc'
    fin_cases c
    · rfl
    · rfl
    · exact absurd (show (2 : Fin 3) ∈ [0, 1] from hc') (by decide)
  fin_cases a
  · have e1 : d.start (ix3 b s q) idx (0 : Fin 3) = 0 := by
      unfold GatherDims.start; rw [dif_neg]; exact (by decide : (0 : Fin 3) ∉ ([1] : List (Fin 3)))
    have e2 : d.batchCoord (ix3 b s q) (0 : Fin 3) = b.val := by
      unfold GatherDims.batchCoord; rw [dif_pos (show (0 : Fin 3) ∈ [0] by decide)]; exact h0 0 _
    have e3 : d.offCoord (ix3 b s q) (0 : Fin 3) = 0 := by
      apply GatherDims.offCoord_eq_zero; rw [hs]; exact (by decide : (0 : Fin 3) ∉ ([2] : List (Fin 3)))
    exact congrArg₂ (· + ·) (congrArg₂ (· + ·) e1 e2) e3 |>.trans (by show 0 + b.val + 0 = b.val; omega)
  · have e1 : d.start (ix3 b s q) idx (1 : Fin 3) = N := by
      unfold GatherDims.start
      rw [dif_pos (show (1 : Fin 3) ∈ [1] by decide)]
      have e : d.siIdx (ix3 b s q) ⟨d.startIndexMap.idxOf (1 : Fin 3), List.idxOf_lt_length_iff.2 ((by decide : (1 : Fin 3) ∈ ([1] : List (Fin 3))))⟩ = ix3 b s 0 := by
        funext c
        apply Fin.ext
        unfold GatherDims.siIdx
        split
        · next hc =>
          obtain rfl : c = (2 : Fin 3) := Fin.ext hc
          rfl
        · exact h0 c _
      rw [e, h, WordCmp.toInt_ofNat_of_lt (by omega)]
      show min (N : ℤ).toNat (n - 1) = N
      omega
    have e2 : d.batchCoord (ix3 b s q) (1 : Fin 3) = 0 := by
      unfold GatherDims.batchCoord; rw [dif_neg]; exact (by decide : (1 : Fin 3) ∉ ([0] : List (Fin 3)))
    have e3 : d.offCoord (ix3 b s q) (1 : Fin 3) = 0 := by
      apply GatherDims.offCoord_eq_zero; rw [hs]; exact (by decide : (1 : Fin 3) ∉ ([2] : List (Fin 3)))
    exact congrArg₂ (· + ·) (congrArg₂ (· + ·) e1 e2) e3
  · have e1 : d.start (ix3 b s q) idx (2 : Fin 3) = 0 := by
      unfold GatherDims.start; rw [dif_neg]; exact (by decide : (2 : Fin 3) ∉ ([1] : List (Fin 3)))
    have e2 : d.batchCoord (ix3 b s q) (2 : Fin 3) = 0 := by
      unfold GatherDims.batchCoord; rw [dif_neg]; exact (by decide : (2 : Fin 3) ∉ ([0] : List (Fin 3)))
    have e3 : d.offCoord (ix3 b s q) (2 : Fin 3) = q.val := by
      unfold GatherDims.offCoord; rw [dif_pos (by rw [hs]; exact (by decide : (2 : Fin 3) ∈ ([2] : List (Fin 3))))]; rfl
    exact congrArg₂ (· + ·) (congrArg₂ (· + ·) e1 e2) e3 |>.trans (by show 0 + 0 + q.val = q.val; omega)

end Cert.Lookup

end
-- ==== Proof.KernelIdeal.HostSide.lean ====
/- What the kernel's host operations hand its launch: the deltas and the numbers of the first 2000 anchors by score, padded
   to 2048 and laid out in rows, and the image's extents. -/
module

public import proofs.«01_k».proof.Proof.KernelIdeal.Frame
public import proofs.«01_k».proof.Proof.Lookup
public import Idealize.ShloMosaic.Lib.StableHlo.RunRead

@[expose] public section

noncomputable section

namespace Cert.KernelIdeal.Val

open Cert.KernelIdeal Cert.KernelIdeal.Gen Cert.KernelIdeal.Body Cert.Lookup Idealize.ShloMosaic Idealize.ShloMosaic.TcCoe

variable (a0 : FVec Ideal S2x2x9x64x64 .f32) (a1 : FVec Ideal S2x36x64x64 .f32) (a2 : FVec Ideal S2x3 .f32)

/-- The foreground scores in anchor order. -/
def score : FVec Ideal S2x36864 .f32 :=
  shapeCast S2x36864 (transpose S2x4096x9 [0, 2, 1] (shapeCast S2x9x4096 (shapeCast S2x9x64x64
    (extractStridedSlice S2x1x9x64x64 ![0, 1, 0, 0, 0] a0 slices_S2x2x9x64x64_S2x1x9x64x64_0_1_0_0_0)
    shapeCasts_S2x1x9x64x64_S2x9x64x64) shapeCasts_S2x9x64x64_S2x9x4096) transposes_S2x9x4096_S2x4096x9_0_2_1) shapeCasts_S2x4096x9_S2x36864

/-- The numbers of the first 2000 anchors by score. -/
def top : IVec S2x2000 32 := (Host.topK S2x2000 1 (FloatOps.cmpfTotal .gt) (score a0) sliceFits_S2x36864_S2x2000).2

/-- The deltas in anchor order. -/
def deltas : FVec Ideal S2x36864x4 .f32 :=
  shapeCast S2x36864x4 (transpose S2x4096x9x4 [0, 3, 1, 2] (shapeCast S2x9x4x4096 a1 shapeCasts_S2x36x64x64_S2x9x4x4096)
    transposes_S2x9x4x4096_S2x4096x9x4_0_3_1_2) shapeCasts_S2x4096x9x4_S2x36864x4

section Take

variable (x : FVec Ideal S2x36864x4 .f32) (w : IVec S2x2000x1 32)

/-- The numbers with negative ones counted from the end. -/
def wrapped : IVec S2x2000x1 32 :=
  select (cmpi .slt w (broadcastInDim S2x2000x1 ![] bcast_S_S2x2000x1 (constantI S_ 32 0#32)))
    (addi w (broadcastInDim S2x2000x1 ![] bcast_S_S2x2000x1 (constantI S_ 32 36864#32))) w

/-- Where the numbers are in range. -/
def inRange : IVec S2x2000 1 :=
  Host.reduce IntOp.andi (andi (cmpi .sge (wrapped w) (broadcastInDim S2x2000x1 ![] bcast_S_S2x2000x1 (constantI S_ 32 0#32)))
    (cmpi .sle (wrapped w) (broadcastInDim S2x2000x1 ![0, 1, 2] bcast_S1x1x1_S2x2000x1_0_1_2
      (broadcastInDim S1x1x1 ![2] bcast_S1_S1x1x1_2 (constantI S1 32 36863#32))))) (constantI S_ 1 1#1) reducesTo_S2x2000x1_S2x2000_d2 h_S_

/-- The rows looked up. -/
def take : FVec Ideal S2x2000x4 .f32 :=
  select (broadcastInDim S2x2000x4 ![0, 1] bcast_S2x2000_S2x2000x4_0_1 (inRange w))
    (Host.gather gather_S2x36864x4_S2x2000x1_S2x2000x4_2_1_0_0_1_2_114 x (wrapped w))
    (broadcastInDim S2x2000x4 ![] bcast_S_S2x2000x4 (constant S_ .f32 0x7FC00000#32))

end Take

/-- The launch's three input arrays. -/
def dels : FVec Ideal S2x4x16x128 .f32 :=
  shapeCast S2x4x16x128 (transpose S2x4x2048 [0, 2, 1] (pad S2x2048x4 ![0, 0, 0] ![0, 48, 0] ![0, 0, 0]
    (take (deltas a1) (broadcastInDim S2x2000x1 ![0, 1] bcast_S2x2000_S2x2000x1_0_1 (top a0))) (sitofp .f32 (constantI S_ 32 0#32))
    pads_S2x2000x4_S2x2048x4_000_0480_000 h_S_) transposes_S2x2048x4_S2x4x2048_0_2_1) shapeCasts_S2x4x2048_S2x4x16x128
def nums : IVec S2x16x128 32 :=
  shapeCast S2x16x128 (pad S2x2048 ![0, 0] ![0, 48] ![0, 0] (top a0) (constantI S_ 32 0#32) pads_S2x2000_S2x2048_000_0480 h_S_) shapeCasts_S2x2048_S2x16x128
def imgs : FVec Ideal S2x8x128 .f32 :=
  pad S2x8x128 ![0, 0, 0] ![0, 6, 0] ![0, 0, 0] (broadcastInDim S2x2x128 ![0, 1, 2] bcast_S2x2x1_S2x2x128_0_1_2
    (broadcastInDim S2x2x1 ![0, 1] bcast_S2x2_S2x2x1_0_1 (extractStridedSlice S2x2 ![0, 0] a2 slices_S2x3_S2x2_0_0)))
    (sitofp .f32 (constantI S_ 32 0#32)) pads_S2x2x128_S2x8x128_000_060_000 h_S_

section Read

variable (m : (ℓ : Loc nD τ sig) → Buf (Elt Ideal) ℓ) (c : Dev nD)

theorem V_imgs : V m c main_v18 = imgs (m (c, Proc.tc.devRef main_arg2)) := by
  unfold V
  after_reads_simp
  simp only [StableHlo.TRef.ofBuf_toBuf]
  rfl
theorem V_nums : V m c main_v14 = nums (m (c, Proc.tc.devRef main_arg0)) := by
  unfold V
  after_reads_simp
  simp only [StableHlo.TRef.ofBuf_toBuf]
  rfl
theorem V_dels : V m c main_v12 = dels (m (c, Proc.tc.devRef main_arg0)) (m (c, Proc.tc.devRef main_arg1)) := by
  unfold V
  after_reads_simp
  simp only [StableHlo.TRef.ofBuf_toBuf]
  rfl

end Read

/-! ## Their entries -/

theorem score_at (b : Fin 2) (q : Fin 36864) : score a0 (ix2 b q) = sc a0 b q := by
  unfold score
  pointwise
  rfl

theorem deltas_at (b : Fin 2) (N : Fin 36864) (q : Fin 4) : deltas a1 (ix3 b N q) = dl a1 b N q := by
  unfold deltas
  pointwise
  rfl

theorem top_at (b : Fin 2) (s : Fin 2000) : top a0 (ix2 b s) = BitVec.ofNat 32 (pos a0 b s).val := by
  have e : (fun q => score a0 (ix2 b q)) = sc a0 b := funext (score_at a0 b)
  unfold pos
  rw [← e]
  exact topK_at (by omega) (score a0) sliceFits_S2x36864_S2x2000 b s

section Take

variable (x : FVec Ideal S2x36864x4 .f32) (w : IVec S2x2000x1 32) (b : Fin 2) (s : Fin 2000) (N : Fin 36864)
variable (h : w (ix3 b s 0) = BitVec.ofNat 32 N.val)

include h in
theorem wrapped_at : wrapped w (ix3 b s 0) = BitVec.ofNat 32 N.val := by
  have := N.isLt
  unfold wrapped
  pointwise [h]
  exact not_from_end (by omega) _ _

include h in
theorem inRange_at : inRange w (ix2 b s) = 1#1 := by
  have := N.isLt
  unfold inRange
  pointwise
  refine fold_one _ ?_
  rw [wrapped_at w b s N h]
  exact passes (M := 36863) (by omega) (by omega)

include h in
theorem take_at (q : Fin 4) : take x w (ix3 b s q) = x (ix3 b N q) := by
  unfold take
  pointwise [inRange_at w b s N h]
  exact gather_at (n := 36864) (k := 2000) _ x _ b s q N.val N.isLt (by omega) (wrapped_at w b s N h)

end Take

theorem dels_at (b : Fin 2) (q : Fin 4) (r : Fin 16) (l : Fin 128) (hn : 128 * r.val + l.val < 2000) :
    dels a0 a1 (ix4 b q r l) = dl a1 b (pos a0 b ⟨128 * r.val + l.val, hn⟩) q := by
  unfold dels
  pointwise
  rw [dif_pos (by omega)]
  have e : r.val * 128 + l.val = 128 * r.val + l.val := by omega
  simp only [e]
  rw [take_at _ _ b ⟨128 * r.val + l.val, hn⟩ (pos a0 b ⟨128 * r.val + l.val, hn⟩), deltas_at]
  pointwise [top_at]

theorem nums_at (b : Fin 2) (r : Fin 16) (l : Fin 128) (hn : 128 * r.val + l.val < 2000) :
    nums a0 (ix3 b r l) = BitVec.ofNat 32 (pos a0 b ⟨128 * r.val + l.val, hn⟩).val := by
  unfold nums
  pointwise
  rw [dif_pos (by omega)]
  have e : r.val * 128 + l.val = 128 * r.val + l.val := by omega
  simp only [e]
  exact top_at a0 b _

theorem imgs_at0 (b : Fin 2) (l : Fin 128) : imgs a2 (ix3 b 0 l) = a2 (ix2 b 0) := by
  unfold imgs
  pointwise

theorem imgs_at1 (b : Fin 2) (l : Fin 128) : imgs a2 (ix3 b 1 l) = a2 (ix2 b 1) := by
  unfold imgs
  pointwise

end Cert.KernelIdeal.Val

end
-- ==== Proof.Greedy.lean ====
/- Greedy suppression as plain mathematics: which boxes of an ordered list are kept, the marks left by the boxes looked
   at so far, and the list of the kept ones in order. -/
module

public import Idealize.ShloMosaic.PureOps.Ideal.Laws
public import Mathlib.Data.Nat.Count

@[expose] public section

noncomputable section

namespace Cert.Greedy

open Classical

/-- The number that stands for a truth value. -/
def ind (P : Prop) : EReal := if P then 1 else 0

theorem ind_of {P : Prop} (h : P) : ind P = 1 := if_pos h
theorem ind_not {P : Prop} (h : ¬ P) : ind P = 0 := if_neg h
theorem ind_congr {P Q : Prop} (h : P ↔ Q) : ind P = ind Q := by rw [propext h]

theorem ind_nonneg (P : Prop) : 0 ≤ ind P := by unfold ind; split <;> simp

theorem one_sub_ind (P : Prop) : (1 : EReal) - ind P = ind (¬ P) := by
  by_cases h : P
  · rw [ind_of h, ind_not (not_not.2 h)]
    show ((1 : ℝ) : EReal) - ((1 : ℝ) : EReal) = 0
    rw [← EReal.coe_sub]; simp
  · rw [ind_not h, ind_of h]; simp

theorem ind_mul_ind (P Q : Prop) : ind P * ind Q = ind (P ∧ Q) := by
  by_cases h : P <;> by_cases h' : Q <;> simp [ind, h, h']

theorem max_ind_ind (P Q : Prop) : max (ind P) (ind Q) = ind (P ∨ Q) := by
  by_cases h : P <;> by_cases h' : Q <;> simp [ind, h, h']

theorem ind_pos (P : Prop) : 0 < ind P ↔ P := by
  by_cases h : P <;> simp [ind, h]

/-- The largest of the zeros and ones of a family tells whether the family has a one. -/
theorem fold_max_ind {α : Type*} (S : Finset α) (f : α → Prop) (hS : S.Nonempty) :
    S.fold max (⊥ : EReal) (fun a => ind (f a)) = ind (∃ a ∈ S, f a) := by
  apply le_antisymm
  · rw [Finset.fold_max_le]
    refine ⟨bot_le, fun a ha => ?_⟩
    by_cases h : f a
    · rw [ind_of h, ind_of ⟨a, ha, h⟩]
    · rw [ind_not h]; exact ind_nonneg _
  · rw [Finset.le_fold_max]
    right
    by_cases h : ∃ a ∈ S, f a
    · obtain ⟨a, ha, hf⟩ := h
      exact ⟨a, ha, by rw [ind_of hf, ind_of ⟨a, ha, hf⟩]⟩
    · obtain ⟨a, ha⟩ := hS
      exact ⟨a, ha, by rw [ind_not h]; exact ind_nonneg _⟩

variable (sup : ℕ → ℕ → Prop)

/-- Box `j` is kept when no kept box before it suppresses it. -/
def kept (j : ℕ) : Prop := ∀ i, (h : i < j) → kept i → ¬ sup i j
termination_by j
decreasing_by exact h

theorem kept_iff (j : ℕ) : kept sup j ↔ ∀ i, i < j → kept sup i → ¬ sup i j := by rw [kept]

theorem kept_congr (sup' : ℕ → ℕ → Prop) (n : ℕ) (h : ∀ i j, i < j → j < n → (sup i j ↔ sup' i j)) :
    ∀ j, j < n → (kept sup j ↔ kept sup' j) := by
  intro j
  induction j using Nat.strong_induction_on with
  | _ j ih =>
    intro hj
    rw [kept_iff, kept_iff]
    refine forall_congr' fun i => forall_congr' fun hi => ?_
    rw [ih i hi (hi.trans hj), h i j hi hj]

/-- Box `j` is suppressed by a kept box among the first `t`. -/
def marked (t j : ℕ) : Prop := ∃ i, i < t ∧ i < j ∧ kept sup i ∧ sup i j

theorem not_marked_zero (j : ℕ) : ¬ marked sup 0 j := fun ⟨_, h, _⟩ => Nat.not_lt_zero _ h

theorem marked_succ (t j : ℕ) : marked sup (t + 1) j ↔ marked sup t j ∨ (sup t j ∧ t < j) ∧ kept sup t := by
  constructor
  · rintro ⟨i, hi, hij, hk, hs⟩
    rcases Nat.lt_succ_iff_lt_or_eq.1 hi with h | rfl
    · exact .inl ⟨i, h, hij, hk, hs⟩
    · exact .inr ⟨⟨hs, hij⟩, hk⟩
  · rintro (⟨i, hi, hij, hk, hs⟩ | ⟨⟨hs, hij⟩, hk⟩)
    · exact ⟨i, hi.trans (Nat.lt_succ_self t), hij, hk, hs⟩
    · exact ⟨t, Nat.lt_succ_self t, hij, hk, hs⟩

theorem kept_iff_not_marked {t j : ℕ} (h : j ≤ t) : kept sup j ↔ ¬ marked sup t j := by
  rw [kept_iff]
  constructor
  · rintro hk ⟨i, _, hij, hi, hs⟩; exact hk i hij hi hs
  · intro hm i hij hi hs; exact hm ⟨i, by omega, hij, hi, hs⟩

/-- Box `n` is one of the `M` real boxes and kept. -/
def real (M n : ℕ) : Prop := kept sup n ∧ n < M

theorem real_congr (sup' : ℕ → ℕ → Prop) (M : ℕ) (h : ∀ i j, i < j → j < M → (sup i j ↔ sup' i j)) :
    real sup M = real sup' M := by
  funext n
  apply propext
  unfold real
  by_cases hn : n < M
  · rw [kept_congr sup sup' M h n hn]
  · simp [hn]

variable (p : ℕ → Prop)

/-- The number of the first `m` boxes that are chosen. -/
def cnt (m : ℕ) : ℕ := Nat.count p m

/-- The `s`-th chosen box. -/
def nth (s : ℕ) : ℕ := if h : ∃ n, p n ∧ cnt p n = s then choose h else 0

/-- The quantity `c` at the `s`-th chosen box, zero when there are not that many among the first `M`. -/
def pick (M : ℕ) (c : ℕ → EReal) (s : ℕ) : EReal := if s < cnt p M then c (nth p s) else 0

/-- The sum of `c` over those of the first `m` boxes that are chosen and have rank `s`. -/
def gather (c : ℕ → EReal) (s m : ℕ) : EReal := ∑ n ∈ Finset.range m, ind (p n ∧ cnt p n = s) * c n

theorem cnt_zero : cnt p 0 = 0 := Nat.count_zero p

theorem gather_zero (c : ℕ → EReal) (s : ℕ) : gather p c s 0 = 0 := Finset.sum_range_zero _

theorem gather_add (c : ℕ → EReal) (s m k : ℕ) :
    gather p c s (m + k) = gather p c s m + ∑ l ∈ Finset.range k, ind (p (m + l) ∧ cnt p (m + l) = s) * c (m + l) :=
  Finset.sum_range_add _ _ _

theorem cnt_add (m k : ℕ) : (cnt p (m + k) : EReal) = (cnt p m : EReal) + ∑ l ∈ Finset.range k, ind (p (m + l)) := by
  induction k with
  | zero => simp
  | succ k ih =>
    rw [Finset.sum_range_succ, ← add_assoc (cnt p m : EReal), ← ih, ← Nat.add_assoc]
    unfold cnt
    rw [Nat.count_succ]
    by_cases h : p (m + k) <;> simp [h, ind]

/-- Every rank below the number of chosen boxes is the rank of a chosen box. -/
theorem exists_rank {s m : ℕ} (h : s < cnt p m) : ∃ n, n < m ∧ p n ∧ cnt p n = s := by
  induction m with
  | zero => exact absurd h (by rw [cnt_zero]; omega)
  | succ m ih =>
    by_cases hs : s < cnt p m
    · obtain ⟨n, hn, hr⟩ := ih hs; exact ⟨n, by omega, hr⟩
    · unfold cnt at h hs
      rw [Nat.count_succ] at h
      by_cases hp : p m
      · rw [if_pos hp] at h
        exact ⟨m, by omega, hp, by unfold cnt; omega⟩
      · rw [if_neg hp] at h; omega

theorem nth_of_rank {s n : ℕ} (hp : p n) (h : cnt p n = s) : nth p s = n := by
  have h' : ∃ n, p n ∧ cnt p n = s := ⟨n, hp, h⟩
  unfold nth
  rw [dif_pos h']
  have h2 := choose_spec h'
  exact Nat.count_injective h2.1 hp (h2.2.trans h.symm)

theorem cnt_mono {m n : ℕ} (h : m ≤ n) : cnt p m ≤ cnt p n := Nat.count_monotone p h

theorem gather_eq (c : ℕ → EReal) (s m : ℕ) : gather p c s m = if s < cnt p m then c (nth p s) else 0 := by
  unfold gather
  split
  · rename_i h
    obtain ⟨n, hn, hp, hr⟩ := exists_rank p h
    rw [nth_of_rank p hp hr, Finset.sum_eq_single n]
    · rw [ind_of ⟨hp, hr⟩, one_mul]
    · intro k _ hk
      rw [ind_not, zero_mul]
      rintro ⟨hpk, hrk⟩
      exact hk ((nth_of_rank p hpk hrk).symm.trans (nth_of_rank p hp hr))
    · intro h'; exact absurd (Finset.mem_range.2 hn) h'
  · rename_i h
    refine Finset.sum_eq_zero fun n hn => ?_
    have hn := Finset.mem_range.1 hn
    rw [ind_not, zero_mul]
    rintro ⟨hp, rfl⟩
    apply h
    unfold cnt
    calc Nat.count p n < Nat.count p (n + 1) := by rw [Nat.count_succ, if_pos hp]; omega
      _ ≤ Nat.count p m := Nat.count_monotone p hn

/-- When no box from `M` on is chosen, or enough are already chosen, the sum over the first `m` boxes is the pick. -/
theorem gather_eq_pick (c : ℕ → EReal) {s m M : ℕ} (hM : ∀ n, p n → n < M) (h : M ≤ m ∨ s < cnt p m) :
    gather p c s m = pick p M c s := by
  rw [gather_eq, pick]
  refine if_congr ?_ rfl rfl
  rcases h with h | h
  · constructor
    · intro hs
      obtain ⟨n, _, hp, hr⟩ := exists_rank p hs
      have h1 := hM n hp
      unfold cnt at *
      calc s < Nat.count p (n + 1) := by rw [Nat.count_succ, if_pos hp]; omega
        _ ≤ Nat.count p M := Nat.count_monotone p h1
    · intro hs; exact hs.trans_le (cnt_mono p h)
  · refine ⟨fun _ => ?_, fun _ => h⟩
    obtain ⟨n, _, hp, hr⟩ := exists_rank p h
    have h1 := hM n hp
    unfold cnt at *
    calc s < Nat.count p (n + 1) := by rw [Nat.count_succ, if_pos hp]; omega
      _ ≤ Nat.count p M := Nat.count_monotone p h1

/-- A nondecreasing list has a value below `v` at place `k` exactly when more than `k` of its values are below `v`. -/
theorem lt_iff_card {n : ℕ} (g : Fin n → ℕ) (hg : Monotone g) (k : Fin n) (v : ℕ) :
    g k < v ↔ k.val < (Finset.univ.filter fun j => g j < v).card := by
  constructor
  · intro h
    have : Finset.Iic k ⊆ Finset.univ.filter fun j => g j < v := fun j hj =>
      Finset.mem_filter.2 ⟨Finset.mem_univ _, (hg (Finset.mem_Iic.1 hj)).trans_lt h⟩
    have := Finset.card_le_card this
    rw [Fin.card_Iic] at this
    omega
  · intro h
    by_contra hv
    have : (Finset.univ.filter fun j => g j < v) ⊆ Finset.Iio k := fun j hj => by
      have hj := (Finset.mem_filter.1 hj).2
      refine Finset.mem_Iio.2 (lt_of_not_ge fun hkj => hv ((hg hkj).trans_lt hj))
    have := Finset.card_le_card this
    rw [Fin.card_Iio] at this
    omega

/-- Among the places `j < n`, those chosen and below `v` are as many as the rank of `v`. -/
theorem card_lt {n v : ℕ} (hv : v ≤ n) :
    (Finset.univ.filter fun j : Fin n => (if p j.val then j.val else n) < v).card = cnt p v := by
  have e : (Finset.univ.filter fun j : Fin n => (if p j.val then j.val else n) < v).map Fin.valEmbedding
      = (Finset.range v).filter p := by
    ext a
    simp only [Finset.mem_map, Finset.mem_filter, Finset.mem_univ, true_and, Fin.valEmbedding_apply, Finset.mem_range]
    constructor
    · rintro ⟨j, hj, rfl⟩
      by_cases h : p j.val
      · rw [if_pos h] at hj; exact ⟨hj, h⟩
      · rw [if_neg h] at hj; omega
    · rintro ⟨ha, hp⟩
      exact ⟨⟨a, by omega⟩, by rw [if_pos hp]; exact ha, rfl⟩
  rw [← Finset.card_map, e, cnt, Nat.count_eq_card_filter_range]

/-- Sorting the list that holds `j` at the chosen places and `n` elsewhere lists the chosen places in order, then `n`. -/
theorem sorted_eq {n : ℕ} (σ : Fin n → Fin n) (hσ : Function.Bijective σ)
    (hm : Monotone fun k => if p (σ k).val then (σ k).val else n) (k : Fin n) :
    (if p (σ k).val then (σ k).val else n) = if k.val < cnt p n then nth p k.val else n := by
  have key : ∀ v, v ≤ n → ((if p (σ k).val then (σ k).val else n) < v ↔ k.val < cnt p v) := by
    intro v hv
    rw [lt_iff_card (fun k => if p (σ k).val then (σ k).val else n) hm k v, ← card_lt p hv]
    have : (Finset.univ.filter fun j : Fin n => (if p (σ j).val then (σ j).val else n) < v).card
        = (Finset.univ.filter fun j : Fin n => (if p j.val then j.val else n) < v).card := by
      refine Finset.card_bij (fun j _ => σ j) ?_ ?_ ?_
      · intro j hj; exact Finset.mem_filter.2 ⟨Finset.mem_univ _, (Finset.mem_filter.1 hj).2⟩
      · intro a _ b _ h; exact hσ.1 h
      · intro b hb
        obtain ⟨a, rfl⟩ := hσ.2 b
        exact ⟨a, Finset.mem_filter.2 ⟨Finset.mem_univ _, (Finset.mem_filter.1 hb).2⟩, rfl⟩
    rw [this]
  have hle : (if p (σ k).val then (σ k).val else n) ≤ n := by
    split
    · exact (σ k).isLt.le
    · exact le_rfl
  by_cases h : k.val < cnt p n
  · rw [if_pos h]
    obtain ⟨a, ha, hp, hr⟩ := exists_rank p h
    rw [nth_of_rank p hp hr]
    have h1 := key a ha.le
    have h2 := key (a + 1) ha
    have h3 : cnt p (a + 1) = cnt p a + 1 := by unfold cnt; rw [Nat.count_succ, if_pos hp]
    have := h1.not
    omega
  · rw [if_neg h]
    have := (key n le_rfl).not.2 h
    omega

end Cert.Greedy

end
-- ==== Proof.KernelIdeal.Reads.lean ====
/- What the pieces of one trip of the kernel's block loop are at the ideal instance, read entry by entry: the rows and
   slabs the trip reads, the overlap test of two boxes, the marks left by earlier blocks and inside the block. -/
module

public import proofs.«01_k».proof.Proof.KernelIdeal.Trip
public import proofs.«01_k».proof.Proof.Greedy
public import Idealize.ShloMosaic.Lib.Pointwise
public import Idealize.ShloMosaic.Lib.WordCmp

@[expose] public section

noncomputable section

namespace Cert.KernelIdeal.Val

open Classical
open Cert.KernelIdeal Cert.KernelIdeal.Gen Cert.KernelIdeal.Body Cert.Mem Cert.Greedy Idealize.ShloMosaic

/-- The overlap of two boxes: the product of the two clipped extents of their intersection. -/
def inter (a0 a1 a2 a3 b0 b1 b2 b3 : EReal) : EReal :=
  max (min a2 b2 - max a0 b0 + 1) 0 * max (min a3 b3 - max a1 b1 + 1) 0

/-- The threshold of the overlap test. -/
def thr : EReal := Ideal.ofBits .f32 0x3F333333#32

/-- The overlap test as the kernel makes it: the overlap against the threshold times the union. -/
def hits (C : Fin 5 → ℕ → EReal) (i j : ℕ) : Prop :=
  thr * (C 4 i + C 4 j - inter (C 0 i) (C 1 i) (C 2 i) (C 3 i) (C 0 j) (C 1 j) (C 2 j) (C 3 j))
    < inter (C 0 i) (C 1 i) (C 2 i) (C 3 i) (C 0 j) (C 1 j) (C 2 j) (C 3 j)

/-- Entry `n` of slab `k`, the slab read as one list of 2048 numbers. -/
def col (x5 : Vec Ideal S5x16x128 .f32) (k : Fin 5) (n : ℕ) : EReal :=
  if h : n < 2048 then x5 (ix3 k ⟨n / 128, by omega⟩ ⟨n % 128, by omega⟩) else 0

theorem col_at (x5 : Vec Ideal S5x16x128 .f32) (k : Fin 5) (r : Fin 16) (l : Fin 128) :
    x5 (ix3 k r l) = col x5 k (128 * r.val + l.val) := by
  have hr := r.isLt; have hl := l.isLt
  unfold col
  rw [dif_pos (by omega)]
  congr 1
  funext a
  match a with
  | ⟨0, _⟩ => rfl
  | ⟨1, _⟩ => exact Fin.ext (show r.val = (128 * r.val + l.val) / 128 by omega)
  | ⟨2, _⟩ => exact Fin.ext (show l.val = (128 * r.val + l.val) % 128 by omega)

theorem wd_nat : ∀ j : Fin 16, (wd j).toNat = j.val := by decide

section Rows

variable (x5 : Vec Ideal S5x16x128 .f32) (j : Fin 16) (l : Fin 128)

/-- Row `j` of slab `k` is the block's part of that list. -/
theorem row_at (k : Fin 5) (off : Fin 3 → ℕ) (hin : ∀ a, off a + S1x1x128.size a ≤ S5x16x128.size a)
    (h : off = ![k.val, j.val, 0]) :
    get x5 (Rect.unit (s := S5x16x128) off S1x1x128.size hin) (ix3 0 0 l) = col x5 k (128 * j.val + l.val) := by
  rw [← col_at]
  show x5 _ = _
  congr 1
  funext a; apply Fin.ext
  rw [Rect.emb_apply]
  subst h
  fin_cases a <;> simp [Rect.unit]

theorem slab_at (k : Fin 5) (r : Fin 16) (off : Fin 3 → ℕ) (hin : ∀ a, off a + S1x16x128.size a ≤ S5x16x128.size a)
    (h : off = ![k.val, 0, 0]) :
    get x5 (Rect.unit (s := S5x16x128) off S1x16x128.size hin) (ix3 0 r l) = col x5 k (128 * r.val + l.val) := by
  rw [← col_at]
  show x5 _ = _
  congr 1
  funext a; apply Fin.ext
  rw [Rect.emb_apply]
  subst h
  fin_cases a <;> simp [Rect.unit]

theorem off1_eq : ∀ j : Fin 16, k0_off1 (wd j) = ![0, j.val, 0] := by decide +kernel
theorem off2_eq : ∀ j : Fin 16, k0_off2 (wd j) = ![1, j.val, 0] := by decide +kernel
theorem off3_eq : ∀ j : Fin 16, k0_off3 (wd j) = ![2, j.val, 0] := by decide +kernel
theorem off4_eq : ∀ j : Fin 16, k0_off4 (wd j) = ![3, j.val, 0] := by decide +kernel
theorem off5_eq : ∀ j : Fin 16, k0_off5 (wd j) = ![4, j.val, 0] := by decide +kernel
theorem off7_eq : ∀ j : Fin 16, k0_off7 (wd j) = ![j.val, 0] := by decide +kernel

theorem rd1_at : rd1 x5 j (ix3 0 0 l) = col x5 0 (128 * j.val + l.val) := row_at x5 j l 0 _ _ (off1_eq j)
theorem rd2_at : rd2 x5 j (ix3 0 0 l) = col x5 1 (128 * j.val + l.val) := row_at x5 j l 1 _ _ (off2_eq j)
theorem rd3_at : rd3 x5 j (ix3 0 0 l) = col x5 2 (128 * j.val + l.val) := row_at x5 j l 2 _ _ (off3_eq j)
theorem rd4_at : rd4 x5 j (ix3 0 0 l) = col x5 3 (128 * j.val + l.val) := row_at x5 j l 3 _ _ (off4_eq j)
theorem rd5_at : rd5 x5 j (ix3 0 0 l) = col x5 4 (128 * j.val + l.val) := row_at x5 j l 4 _ _ (off5_eq j)

theorem sl1_at (r : Fin 16) : sl1 x5 (ix3 0 r l) = col x5 0 (128 * r.val + l.val) := slab_at x5 l 0 r _ _ rfl
theorem sl2_at (r : Fin 16) : sl2 x5 (ix3 0 r l) = col x5 1 (128 * r.val + l.val) := slab_at x5 l 1 r _ _ rfl
theorem sl3_at (r : Fin 16) : sl3 x5 (ix3 0 r l) = col x5 2 (128 * r.val + l.val) := slab_at x5 l 2 r _ _ rfl
theorem sl4_at (r : Fin 16) : sl4 x5 (ix3 0 r l) = col x5 3 (128 * r.val + l.val) := slab_at x5 l 3 r _ _ rfl
theorem sl5_at (r : Fin 16) : sl5 x5 (ix3 0 r l) = col x5 4 (128 * r.val + l.val) := slab_at x5 l 4 r _ _ rfl

end Rows

theorem get_whole (x6 : Vec Ideal S16x128 .f32) :
    get x6 (Rect.unit (s := S16x128) ![0, 0] S16x128.size inb_S16x128_S16x128_0_0) = x6 := by
  funext i
  show x6 _ = _
  congr 1
  funext a; apply Fin.ext; rw [Rect.emb_apply]; fin_cases a <;> simp [Rect.unit]

theorem ite_ind {c P : Prop} [Decidable c] : (if c then ind P else 0) = ind (c ∧ P) := by
  by_cases h : c
  · rw [if_pos h]; exact ind_congr ⟨fun q => ⟨h, q⟩, fun q => q.2⟩
  · rw [if_neg h, ind_not fun q => h q.1]

theorem sel_ite {α : Type} (P : Prop) [Decidable P] (a b : α) :
    Scalar.select (BitVec.ofBool (decide P)) a b = if P then a else b := by
  by_cases h : P <;> simp [h, Scalar.select]

theorem sel_ind (P : Prop) [Decidable P] : Scalar.select (BitVec.ofBool (decide P)) (1 : EReal) 0 = ind P := by
  rw [sel_ite]; by_cases h : P <;> simp [h, ind]

theorem neg_inf : Ideal.ofBits .f32 0xFF800000#32 = ⊥ := by simp [Ideal.ofBits, Ideal.ieee]

/-- Which boxes the kept boxes of earlier blocks suppress: the largest of the marks of the boxes that hit it. -/
theorem supB_at (x5 : Vec Ideal S5x16x128 .f32) (j : Fin 16) (x6 : Vec Ideal S16x128 .f32) (Q : ℕ → Prop)
    (h6 : ∀ (r : Fin 16) (l : Fin 128), x6 (ix2 r l) = ind (Q (128 * r.val + l.val))) (l : Fin 128) :
    supB x5 j x6 (ix2 0 l)
      = ind (∃ n, n < 2048 ∧ Q n ∧ hits (col x5) n (128 * j.val + l.val)) := by
  unfold supB
  rw [get_whole]
  unfold_payloads
  pointwise [rd1_at, rd2_at, rd3_at, rd4_at, rd5_at, sl1_at, sl2_at, sl3_at, sl4_at, sl5_at]
  rw [neg_inf]
  refine (Finset.fold_congr (g := fun x : S16x128x128.Idx => ind (hits (col x5) (128 * (x 0).val + (x 1).val) (128 * j.val + (x 2).val)
    ∧ Q (128 * (x 0).val + (x 1).val))) fun x _ => ?_).trans ?_
  · exact (congrArg (fun v => ite _ v _) (h6 (x 0) (x 1))).trans ite_ind
  have hmem (x : S16x128x128.Idx) : reduces_S16x128x128_S128.drop x = ix1 l ↔ x 2 = l := by
    constructor
    · intro h
      have := congrFun h 0
      exact this
    · intro h
      funext a
      match a with
      | ⟨0, _⟩ => exact h
  rw [fold_max_ind _ _ ⟨ix3 0 0 l, by rw [Finset.mem_filter]; exact ⟨Finset.mem_univ _, (hmem _).2 rfl⟩⟩]
  apply ind_congr
  constructor
  · rintro ⟨x, hx, hh, hQ⟩
    rw [Finset.mem_filter, hmem] at hx
    have h0 : (x 0).val < 16 := (x 0).isLt
    have h1 : (x 1).val < 128 := (x 1).isLt
    exact ⟨_, by omega, hQ, hx.2 ▸ hh⟩
  · rintro ⟨n, hn, hQ, hh⟩
    refine ⟨ix3 ⟨n / 128, by omega⟩ ⟨n % 128, by omega⟩ l, by rw [Finset.mem_filter]; exact ⟨Finset.mem_univ _, (hmem _).2 rfl⟩, ?_⟩
    have e : 128 * (n / 128) + n % 128 = n := by omega
    show hits _ (128 * (n / 128) + n % 128) _ ∧ Q (128 * (n / 128) + n % 128)
    rw [e]
    exact ⟨hh, hQ⟩

theorem word_eq {a b : Fin 128} : BitVec.ofNat 32 a.val = BitVec.ofNat 32 b.val ↔ a = b := by
  have ha := a.isLt; have hb := b.isLt
  rw [← BitVec.toNat_inj, BitVec.toNat_ofNat, BitVec.toNat_ofNat, Nat.mod_eq_of_lt (by omega), Nat.mod_eq_of_lt (by omega), Fin.ext_iff]

theorem word_int (a : Fin 128) : (BitVec.ofNat 32 a.val).toInt = (a.val : ℤ) := by
  have ha := a.isLt
  rw [BitVec.toInt_ofNat']
  simp [Int.bmod]
  omega

/-- The identity matrix. -/
theorem eye_at (r l : Fin 128) : k0_pay2 (F := Ideal) (ix2 r l) = ind (r = l) := by
  unfold_payloads
  pointwise
  rw [WordCmp.cmpi_eq_eq, sel_ind]
  exact ind_congr word_eq

/-- The strictly upper triangle. -/
theorem tri_at (r l : Fin 128) : k0_pay3 (F := Ideal) (ix2 r l) = ind (r.val < l.val) := by
  unfold_payloads
  pointwise
  rw [WordCmp.cmpi_slt_eq, sel_ind, word_int, word_int]
  exact ind_congr (by simp)

theorem sum_eye (f : Fin 128 → EReal) (r : Fin 128) : ∑ x, ind (r = x) * f x = f r := by
  rw [Finset.sum_eq_single r]
  · rw [ind_of rfl, one_mul]
  · intro b _ hb; rw [ind_not (Ne.symm hb), zero_mul]
  · intro h; exact absurd (Finset.mem_univ _) h

/-- The overlap test of every pair of boxes inside the block. -/
theorem ovl_at (x5 : Vec Ideal S5x16x128 .f32) (j : Fin 16) (r l : Fin 128) :
    ovl x5 j (ix2 r l) = ind (hits (col x5) (128 * j.val + r.val) (128 * j.val + l.val) ∧ r.val < l.val) := by
  unfold ovl k0_pay65 k0_pay63 k0_pay62 k0_pay61 k0_pay60 k0_pay59 k0_pay64 k0_pay44 k0_pay45 k0_pay46 k0_pay47 k0_pay48
  pointwise [dot_S128x128_S1x128_S128x1_1_1_0_0_n_n, eye_at, sum_eye, tri_at, rd1_at, rd2_at, rd3_at, rd4_at, rd5_at]
  exact ite_ind

theorem trips_eq : k0_t1_loop.trips = 128 := by decide +kernel

theorem off6_at (o : FVec Ideal S128x128 .f32) (k : Fin k0_t1_loop.trips) (l : Fin 128) :
    oRow o k (ix2 0 l) = o (ix2 ⟨k.val, by have := k.isLt; have := trips_eq; omega⟩ l) := by
  show o _ = _
  congr 1
  funext a; apply Fin.ext
  rw [Rect.emb_apply]
  have h := k0_off6_eq k
  fin_cases a <;> simp [Rect.unit, h]

theorem iv_int : ∀ k : Fin k0_t1_loop.trips, (Scf.iv 0#32 1#32 k.val).toInt = (k.val : ℤ) := by decide +kernel

theorem lane_at (l : Fin 128) : k0_pay4 (F := Ideal) (ix2 0 l) = (l.val : EReal) := by
  unfold_payloads
  pointwise
  show (((BitVec.ofNat 32 l.val).toInt : ℝ) : EReal) = _
  rw [word_int]
  norm_cast

/-- The marks of block `j`'s boxes after `k` steps of the pass over the block. -/
theorem marks_at (x5 : Vec Ideal S5x16x128 .f32) (j : Fin 16) (s : FVec Ideal S1x128 .f32)
    (hs : ∀ l : Fin 128, s (ix2 0 l) = ind (marked (hits (col x5)) (128 * j.val) (128 * j.val + l.val))) (k : ℕ) (hk : k ≤ 128) :
    ∀ l : Fin 128, marks (ovl x5 j) s k (ix2 0 l) = ind (marked (hits (col x5)) (128 * j.val + k) (128 * j.val + l.val)) := by
  induction k with
  | zero => exact hs
  | succ k ih =>
    intro l
    have ih := ih (by omega)
    have ht : k < k0_t1_loop.trips := by rw [trips_eq]; omega
    rw [marks, dif_pos ht]
    unfold k0_pay66
    pointwise [lane_at, ih, off6_at, ovl_at, iv_int ⟨k, ht⟩, neg_inf]
    simp only [ite_ind]
    rw [fold_max_ind _ _ ⟨(0, l), Finset.mem_univ _⟩, one_sub_ind, ind_mul_ind, max_ind_ind]
    apply ind_congr
    rw [← Nat.add_assoc, marked_succ, kept_iff_not_marked _ (le_refl _)]
    refine or_congr Iff.rfl (and_congr (and_congr Iff.rfl (by omega)) (not_congr ?_))
    constructor
    · rintro ⟨x, -, h1, h2⟩
      have h1 : x.2.val = k := by exact_mod_cast h1
      rwa [h1] at h2
    · intro h; exact ⟨(0, ⟨k, by omega⟩), Finset.mem_univ _, by norm_cast, h⟩

end Cert.KernelIdeal.Val

end
-- ==== Proof.Box.lean ====
/- One proposal as plain arithmetic: from an anchor's number, its four deltas and the image's height and width, the four
   clipped corners and the area. Anchor `N` sits at place `N / 9` of the 64 by 64 grid and has shape `N % 9`. -/
module

public import Idealize.ShloMosaic.PureOps.Ideal.Laws

@[expose] public section

noncomputable section

namespace Cert.Box

open Idealize.ShloMosaic

/-- Widths and heights of the nine anchors. -/
def wOf : ℕ → ℝ
  | 0 => 184 | 1 => 368 | 2 => 736 | 3 => 128 | 4 => 256 | 5 => 512 | 6 => 88 | 7 => 176 | 8 => 352 | _ => 0
def hOf : ℕ → ℝ
  | 0 => 96 | 1 => 192 | 2 => 384 | 3 => 128 | 4 => 256 | 5 => 512 | 6 => 176 | 7 => 352 | 8 => 704 | _ => 0

/-- One half, as both programs spell it. -/
def half : EReal := Ideal.ofBits .f32 0x3F000000#32

/-- Centre and extent along one axis: grid place `g`, anchor extent `w`, deltas `d` and `e`. -/
def ctr (d : EReal) (w : ℝ) (g : ℕ) : EReal := d * (w : EReal) + ((8 + 16 * g : ℝ) : EReal)
def ext (e : EReal) (w : ℝ) : EReal := Ideal.exp e * (w : EReal)

/-- The lower and upper corner along one axis, clipped to the image's extent `im`. -/
def lo (d e : EReal) (w : ℝ) (g : ℕ) (im : EReal) : EReal := min (max (ctr d w g - half * ext e w) 0) (im - 1)
def hi (d e : EReal) (w : ℝ) (g : ℕ) (im : EReal) : EReal := min (max (ctr d w g + half * ext e w) 0) (im - 1)

/-- The area of a box from its corners. -/
def area (x1 y1 x2 y2 : EReal) : EReal := (x2 - x1 + 1) * (y2 - y1 + 1)

/-- The four corners of proposal `N`, and its area. -/
def bx1 (N : ℕ) (d : Fin 4 → EReal) (imw : EReal) : EReal := lo (d 0) (d 2) (wOf (N % 9)) (N / 9 % 64) imw
def by1 (N : ℕ) (d : Fin 4 → EReal) (imh : EReal) : EReal := lo (d 1) (d 3) (hOf (N % 9)) (N / 9 / 64) imh
def bx2 (N : ℕ) (d : Fin 4 → EReal) (imw : EReal) : EReal := hi (d 0) (d 2) (wOf (N % 9)) (N / 9 % 64) imw
def by2 (N : ℕ) (d : Fin 4 → EReal) (imh : EReal) : EReal := hi (d 1) (d 3) (hOf (N % 9)) (N / 9 / 64) imh

def box (N : ℕ) (d : Fin 4 → EReal) (imh imw : EReal) : Fin 5 → EReal
  | 0 => bx1 N d imw
  | 1 => by1 N d imh
  | 2 => bx2 N d imw
  | 3 => by2 N d imh
  | 4 => area (bx1 N d imw) (by1 N d imh) (bx2 N d imw) (by2 N d imh)

end Cert.Box

end
-- ==== Proof.KernelIdeal.Coords.lean ====
/- The kernel's decoding of the anchor number and of the deltas, entry by entry: its five planes are the proposal's
   clipped corners and area. -/
module

public import proofs.«01_k».proof.Proof.KernelIdeal.Block
public import proofs.«01_k».proof.Proof.KernelIdeal.Reads
public import proofs.«01_k».proof.Proof.Box

@[expose] public section

noncomputable section

namespace Cert.KernelIdeal.Val

open Cert.KernelIdeal Cert.KernelIdeal.Gen Cert.KernelIdeal.Body Cert.Mem Cert.Box Idealize.ShloMosaic

/-- The multiplier the kernel divides by nine with, a little above one ninth. -/
theorem lit_ninth : Ideal.ofBits .f32 0x3DE38E39#32 = ((14913081 / 134217728 : ℝ) : EReal) := by
  simp [Ideal.ofBits, Ideal.ieee]; norm_cast
theorem lit9 : Ideal.ofBits .f32 0x41100000#32 = ((9 : ℝ) : EReal) := by
  simp [Ideal.ofBits, Ideal.ieee]; norm_cast; norm_num
theorem lit_64th : Ideal.ofBits .f32 0x3C800000#32 = ((1 / 64 : ℝ) : EReal) := by
  simp [Ideal.ofBits, Ideal.ieee]; norm_cast; norm_num
theorem lit64 : Ideal.ofBits .f32 0x42800000#32 = ((64 : ℝ) : EReal) := by
  simp [Ideal.ofBits, Ideal.ieee]; norm_cast; norm_num
theorem lit16 : Ideal.ofBits .f32 0x41800000#32 = ((16 : ℝ) : EReal) := by
  simp [Ideal.ofBits, Ideal.ieee]; norm_cast; norm_num
theorem lit8 : Ideal.ofBits .f32 0x41000000#32 = ((8 : ℝ) : EReal) := by
  simp [Ideal.ofBits, Ideal.ieee]; norm_cast; norm_num

theorem floor_div (a b c : ℕ) (h : c * b ≤ a) (h' : a < c * b + b) : ⌊((a : ℝ) / b)⌋ = (c : ℤ) := by
  have hb : 0 < b := by omega
  have hb' : (0 : ℝ) < b := by exact_mod_cast hb
  rw [Int.floor_eq_iff]
  constructor
  · rw [le_div_iff₀ hb']; exact_mod_cast h
  · rw [div_lt_iff₀ hb']
    have : (a : ℝ) < (c * b + b : ℕ) := by exact_mod_cast h'
    push_cast at this ⊢
    linarith

/-- Multiplying by a little more than one ninth and rounding down divides by nine. -/
theorem ninth (N : ℕ) (hN : N < 36864) :
    Ideal.liftRound Int.floor (((N : ℝ) : EReal) * ((14913081 / 134217728 : ℝ) : EReal)) = (((N / 9 : ℕ) : ℝ) : EReal) := by
  rw [← EReal.coe_mul, Ideal.liftRound_coe]
  have e : (N : ℝ) * (14913081 / 134217728) = ((N * 14913081 : ℕ) : ℝ) / (134217728 : ℕ) := by push_cast; ring
  rw [e, floor_div _ _ (N / 9) (by omega) (by omega)]
  norm_cast

theorem sixtyfourth (M : ℕ) :
    Ideal.liftRound Int.floor (((M : ℝ) : EReal) * ((1 / 64 : ℝ) : EReal)) = (((M / 64 : ℕ) : ℝ) : EReal) := by
  rw [← EReal.coe_mul, Ideal.liftRound_coe]
  have e : (M : ℝ) * (1 / 64) = ((M : ℕ) : ℝ) / (64 : ℕ) := by push_cast; ring
  rw [e, floor_div _ _ (M / 64) (by omega) (by omega)]
  norm_cast

section Decode

variable (v : Vec Ideal S1x16x128 .i32) (r : Fin 16) (l : Fin 128) (N : ℕ) (hN : N < 36864)
variable (h : FloatOps.sitofp (F := Ideal) .f32 (v (ix3 0 r l)) = ((N : ℝ) : EReal))

theorem rem9 (N : ℕ) : ((N : ℝ) : EReal) - (((N / 9 : ℕ) : ℝ) : EReal) * ((9 : ℝ) : EReal) = (((N % 9 : ℕ) : ℝ) : EReal) := by
  rw [← EReal.coe_mul, ← EReal.coe_sub]
  congr 1
  have e : (N : ℝ) = ((9 * (N / 9) + N % 9 : ℕ) : ℝ) := by congr 1; omega
  conv_lhs => rw [e]
  push_cast
  ring

include hN h in
theorem place_at : k0_pay16 (F := Ideal) v (ix2 r l) = (((N / 9 : ℕ) : ℝ) : EReal) := by
  unfold k0_pay16 k0_pay11
  pointwise [h, lit_ninth, lit9, ninth N hN, rem9]
  rw [if_neg, if_neg]
  · rw [not_lt]; exact_mod_cast Nat.zero_le _
  · rw [not_le, EReal.coe_lt_coe_iff]; have := Nat.mod_lt N (by omega : 0 < 9); exact_mod_cast this

include hN h in
theorem shape_at : k0_pay17 (F := Ideal) v (ix2 r l) = (((N % 9 : ℕ) : ℝ) : EReal) := by
  unfold k0_pay17 k0_pay11
  pointwise [h, place_at v r l N hN h, lit9, rem9]

include hN h in
theorem row_of : k0_pay19 (k0_pay18 (F := Ideal) v) (ix2 r l) = (((N / 9 / 64 : ℕ) : ℝ) : EReal) := by
  unfold k0_pay19 k0_pay18
  pointwise [place_at v r l N hN h, lit_64th, sixtyfourth]

include hN h in
theorem col_of : k0_pay20 (k0_pay16 v) (k0_pay18 (F := Ideal) v) (ix2 r l) = (((N / 9 % 64 : ℕ) : ℝ) : EReal) := by
  unfold k0_pay20
  pointwise [row_of v r l N hN h, place_at v r l N hN h, lit64]
  rw [← EReal.coe_mul, ← EReal.coe_sub]
  congr 1
  have e : ((N / 9 : ℕ) : ℝ) = ((64 * (N / 9 / 64) + N / 9 % 64 : ℕ) : ℝ) := by congr 1; omega
  conv_lhs => rw [e]
  push_cast
  ring

end Decode

/-- The nine widths by shape. -/
theorem width_at (a : FVec Ideal S16x128 .f32) (i : S16x128.Idx) (m : ℕ) (hm : m < 9) (h : a i = ((m : ℝ) : EReal)) :
    k0_pay24 a (k0_pay21 a) (k0_pay23 a) i = ((wOf m : ℝ) : EReal) := by
  unfold k0_pay24 k0_pay21 k0_pay23
  pointwise [h]
  interval_cases m
  all_goals
    simp [Ideal.ofBits, Ideal.ieee, wOf]
    norm_cast
    try norm_num

/-- The nine heights by shape. -/
theorem height_at (a : FVec Ideal S16x128 .f32) (i : S16x128.Idx) (m : ℕ) (hm : m < 9) (h : a i = ((m : ℝ) : EReal)) :
    k0_pay25 a (k0_pay22 a) i = ((hOf m : ℝ) : EReal) := by
  unfold k0_pay25 k0_pay22
  pointwise [h]
  interval_cases m
  all_goals
    simp [Ideal.ofBits, Ideal.ieee, hOf]
    norm_cast
    try norm_num

section Planes

variable (x0 : Vec Ideal S1x4x16x128 .f32) (x1 : Vec Ideal S1x16x128 .i32) (x2 : Vec Ideal S1x8x128 .f32)
variable (r : Fin 16) (l : Fin 128) (N : ℕ) (hN : N < 36864)
variable (h : FloatOps.sitofp (F := Ideal) .f32 (ixs x1 (ix3 0 r l)) = ((N : ℝ) : EReal))

theorem dl0_at : dl0 x0 (ix4 0 0 r l) = x0 (ix4 0 0 r l) := by
  unfold dl0 Mem.get; congr 1; funext a; apply Fin.ext; rw [Rect.emb_apply]; fin_cases a <;> simp [Rect.unit] <;> rfl
theorem dl1_at : dl1 x0 (ix4 0 0 r l) = x0 (ix4 0 1 r l) := by
  unfold dl1 Mem.get; congr 1; funext a; apply Fin.ext; rw [Rect.emb_apply]; fin_cases a <;> simp [Rect.unit] <;> rfl
theorem dl2_at : dl2 x0 (ix4 0 0 r l) = x0 (ix4 0 2 r l) := by
  unfold dl2 Mem.get; congr 1; funext a; apply Fin.ext; rw [Rect.emb_apply]; fin_cases a <;> simp [Rect.unit] <;> rfl
theorem dl3_at : dl3 x0 (ix4 0 0 r l) = x0 (ix4 0 3 r l) := by
  unfold dl3 Mem.get; congr 1; funext a; apply Fin.ext; rw [Rect.emb_apply]; fin_cases a <;> simp [Rect.unit] <;> rfl
theorem im0_at : im0 x2 (ix3 0 0 l) = x2 (ix3 0 0 l) := by
  unfold im0 Mem.get; congr 1; funext a; apply Fin.ext; rw [Rect.emb_apply]; fin_cases a <;> simp [Rect.unit] <;> rfl
theorem im1_at : im1 x2 (ix3 0 0 l) = x2 (ix3 0 1 l) := by
  unfold im1 Mem.get; congr 1; funext a; apply Fin.ext; rw [Rect.emb_apply]; fin_cases a <;> simp [Rect.unit] <;> rfl

include hN h in
theorem aw_at : aw x1 (ix2 r l) = ((wOf (N % 9) : ℝ) : EReal) :=
  width_at _ _ _ (Nat.mod_lt _ (by omega)) (shape_at _ r l N hN h)
include hN h in
theorem ah_at : ah x1 (ix2 r l) = ((hOf (N % 9) : ℝ) : EReal) :=
  height_at _ _ _ (Nat.mod_lt _ (by omega)) (shape_at _ r l N hN h)
include hN h in
theorem cx_at : cx x1 (ix2 r l) = ((16 * (N / 9 % 64 : ℕ) : ℝ) : EReal) := by
  unfold cx k0_pay26
  pointwise [col_of _ r l N hN h, lit16]
  rw [← EReal.coe_mul]
include hN h in
theorem cy_at : cy x1 (ix2 r l) = (((N / 9 / 64 : ℕ) : ℝ) : EReal) := row_of _ r l N hN h

/-- The deltas and the image's extents at one place of the block. -/
def dAt (q : Fin 4) : EReal := x0 (ix4 0 q r l)

include hN h in
/-- The centres and extents. -/
theorem pcx_at : k0_pay27 (k0_pay12 (dl0 x0)) (aw x1) (cx x1) (ix2 r l) = ctr (dAt x0 r l 0) (wOf (N % 9)) (N / 9 % 64) := by
  unfold k0_pay27 k0_pay12
  pointwise [dl0_at, aw_at x1 r l N hN h, cx_at x1 r l N hN h, lit8]
  rfl
include hN h in
theorem pcy_at : k0_pay28 (k0_pay13 (dl1 x0)) (cy x1) (ah x1) (ix2 r l) = ctr (dAt x0 r l 1) (hOf (N % 9)) (N / 9 / 64) := by
  unfold k0_pay28 k0_pay13
  pointwise [dl1_at, ah_at x1 r l N hN h, cy_at x1 r l N hN h, lit8, lit16]
  unfold ctr dAt
  rw [← EReal.coe_mul, ← EReal.coe_add, mul_comm (16 : ℝ)]
include hN h in
theorem pw_at : k0_pay29 (k0_pay14 (dl2 x0)) (aw x1) (ix2 r l) = ext (dAt x0 r l 2) (wOf (N % 9)) := by
  unfold k0_pay29 k0_pay14
  pointwise [dl2_at, aw_at x1 r l N hN h]
  rfl
include hN h in
theorem ph_at : k0_pay30 (k0_pay15 (dl3 x0)) (ah x1) (ix2 r l) = ext (dAt x0 r l 3) (hOf (N % 9)) := by
  unfold k0_pay30 k0_pay15
  pointwise [dl3_at, ah_at x1 r l N hN h]
  rfl

include hN h in
/-- The four clipped corners. -/
theorem x1_at : k0_pay33 (k0_pay12 (dl0 x0)) (k0_pay14 (dl2 x0)) (aw x1) (cx x1) (im1 x2) (ix2 r l)
    = bx1 N (dAt x0 r l) (x2 (ix3 0 1 l)) := by
  unfold k0_pay33 k0_pay32
  pointwise [im1_at, pcx_at x0 x1 r l N hN h, pw_at x0 x1 r l N hN h]
  rfl
include hN h in
theorem y1_at : k0_pay34 (k0_pay13 (dl1 x0)) (k0_pay15 (dl3 x0)) (cy x1) (ah x1) (im0 x2) (ix2 r l)
    = by1 N (dAt x0 r l) (x2 (ix3 0 0 l)) := by
  unfold k0_pay34 k0_pay31
  pointwise [im0_at, pcy_at x0 x1 r l N hN h, ph_at x0 x1 r l N hN h]
  rfl
include hN h in
theorem x2_at : k0_pay37 (k0_pay32 (im1 x2)) (k0_pay35 (k0_pay12 (dl0 x0)) (k0_pay14 (dl2 x0)) (aw x1) (cx x1)) k0_pay36 (ix2 r l)
    = bx2 N (dAt x0 r l) (x2 (ix3 0 1 l)) := by
  unfold k0_pay37 k0_pay35 k0_pay32 k0_pay36
  pointwise [im1_at, pcx_at x0 x1 r l N hN h, pw_at x0 x1 r l N hN h]
  rfl
include hN h in
theorem y2_at : k0_pay38 (k0_pay28 (k0_pay13 (dl1 x0)) (cy x1) (ah x1)) (k0_pay30 (k0_pay15 (dl3 x0)) (ah x1)) (k0_pay31 (im0 x2)) (ix2 r l)
    = by2 N (dAt x0 r l) (x2 (ix3 0 0 l)) := by
  unfold k0_pay38 k0_pay31
  pointwise [im0_at, pcy_at x0 x1 r l N hN h, ph_at x0 x1 r l N hN h]
  rfl

include hN h in
/-- The five planes at one place. -/
theorem coords_at (k : Fin 5) : coords x0 x1 x2 (ix3 k r l) = box N (dAt x0 r l) (x2 (ix3 0 0 l)) (x2 (ix3 0 1 l)) k := by
  have e : inPlane (ix3 k r l) = ix3 0 r l := by funext a; fin_cases a <;> rfl
  have e1 := x1_at x0 x1 x2 r l N hN h
  have e2 := y1_at x0 x1 x2 r l N hN h
  have e3 := x2_at x0 x1 x2 r l N hN h
  have e4 := y2_at x0 x1 x2 r l N hN h
  unfold coords slabs
  rw [e]
  fin_cases k
  · show w0 x0 x1 x2 (ix3 0 r l) = bx1 _ _ _
    unfold w0 k0_pay39
    pointwise [e1]
  · show w1 x0 x1 x2 (ix3 0 r l) = by1 _ _ _
    unfold w1 k0_pay40
    pointwise [e2]
  · show w2 x0 x1 x2 (ix3 0 r l) = bx2 _ _ _
    unfold w2 k0_pay41
    pointwise [e3]
  · show w3 x0 x1 x2 (ix3 0 r l) = by2 _ _ _
    unfold w3 k0_pay42
    pointwise [e4]
  · show w4 x0 x1 x2 (ix3 0 r l) = area _ _ _ _
    unfold w4 k0_pay43
    pointwise [e1, e2, e3, e4]
    rfl
end Planes

end Cert.KernelIdeal.Val

end
-- ==== Proof.KernelIdeal.Blocks.lean ====
/- The block loop as a whole: what the count, the gathered columns and the keep marks are after each block, and hence
   what the loop leaves — the first three hundred kept boxes in order. -/
module

public import proofs.«01_k».proof.Proof.KernelIdeal.Reads

@[expose] public section

noncomputable section

namespace Cert.KernelIdeal.Val

open Classical
open Cert.KernelIdeal Cert.KernelIdeal.Gen Cert.KernelIdeal.Body Cert.Mem Cert.Greedy Idealize.ShloMosaic

/-- A box is counted when it is kept and is not padding. -/
abbrev good (C : Fin 5 → ℕ → EReal) : ℕ → Prop := real (hits C) 2000

theorem slot_at (t : Fin 304) : k0_pay5 (F := Ideal) (ix2 t 0) = (t.val : EReal) := by
  unfold_payloads
  pointwise
  show (((BitVec.ofNat 32 t.val).toInt : ℝ) : EReal) = _
  rw [WordCmp.toInt_ofNat_of_lt (by have := t.isLt; norm_num; omega)]
  norm_cast

section Trip

variable (v w : FVec Ideal S1x128 .f32) (q : IVec S1x128 1) (z c : EReal) (P : Fin 128 → Prop)
variable (h : ∀ l, k0_pay69 v q z (ix2 0 l) = ind (P l))

include h in
theorem pr_at (t : Fin 304) (l : Fin 128) :
    k0_pay71 k0_pay3 k0_pay5 c v q z (ix2 t l)
      = ind (c + ∑ l', ind (P l' ∧ l'.val < l.val) = (t.val : EReal) ∧ P l) := by
  unfold k0_pay71
  pointwise [dot_S1x128_S128x128_S1x128_1_0_0_1_n_n, h, tri_at, slot_at, ind_mul_ind, ind_pos, WordCmp.andi_ofBool, ← Bool.decide_and, sel_ind]

include h in
theorem acc_at (a : FVec Ideal S304x1 .f32) (row : FVec Ideal S1x128 .f32) (t : Fin 304) :
    k0_pay72 k0_pay3 k0_pay5 c a row v q z (ix2 t 0)
      = a (ix2 t 0) + ∑ l, ind (c + ∑ l', ind (P l' ∧ l'.val < l.val) = (t.val : EReal) ∧ P l) * row (ix2 0 l) := by
  unfold k0_pay72
  pointwise [pr_at v q z c P h]

include h in
theorem count_at : k0_pay76 c v q z = c + ∑ l, ind (P l) := by
  unfold k0_pay76
  pointwise [h]
  rw [Finset.sum_const, Finset.card_univ, Fintype.card_fin, one_smul]

end Trip

theorem lit128 : Ideal.ofBits .f32 0x43000000#32 = ((128 : ℝ) : EReal) := by
  simp [Ideal.ofBits, Ideal.ieee]; norm_cast; norm_num
theorem lit2000 : Ideal.ofBits .f32 0x44FA0000#32 = ((2000 : ℝ) : EReal) := by
  simp [Ideal.ofBits, Ideal.ieee]; norm_cast; norm_num
theorem lit300 : Ideal.ofBits .f32 0x43960000#32 = ((300 : ℝ) : EReal) := by
  simp [Ideal.ofBits, Ideal.ieee]; norm_cast; norm_num

theorem wd_int : ∀ j : Fin 16, (wd j).toInt = (j.val : ℤ) := by decide

/-- The mask of the block's boxes that are not padding. -/
theorem mask_at (j : Fin 16) (l : Fin 128) :
    k0_pay68 (F := Ideal) k0_pay4 (wd j) (ix2 0 l) = BitVec.ofBool (decide (128 * j.val + l.val < 2000)) := by
  unfold k0_pay68
  pointwise [lane_at, lit128, lit2000, wd_int]
  congr 2
  apply propext
  have e : (((j.val : ℤ) : ℝ) : EReal) * ((128 : ℝ) : EReal) + ((l.val : ℕ) : EReal) = ((((128 * j.val + l.val : ℕ)) : ℝ) : EReal) := by
    push_cast
    rw [mul_comm]
  refine (iff_of_eq (congrArg (fun v : EReal => v < ((2000 : ℝ) : EReal)) e)).trans ?_
  rw [EReal.coe_lt_coe_iff]
  exact_mod_cast Iff.rfl

/-- What the loop's state is after the first `j` blocks. -/
structure Inv (x5 : Vec Ideal S5x16x128 .f32) (j : ℕ) (s : St Ideal) : Prop where
  cnt : s.cnt = ((cnt (good (col x5)) (128 * j) : ℕ) : EReal)
  a0 : ∀ t : Fin 304, s.a0 (ix2 t 0) = gather (good (col x5)) (col x5 0) t.val (128 * j)
  a1 : ∀ t : Fin 304, s.a1 (ix2 t 0) = gather (good (col x5)) (col x5 1) t.val (128 * j)
  a2 : ∀ t : Fin 304, s.a2 (ix2 t 0) = gather (good (col x5)) (col x5 2) t.val (128 * j)
  a3 : ∀ t : Fin 304, s.a3 (ix2 t 0) = gather (good (col x5)) (col x5 3) t.val (128 * j)
  keep : ∀ (r : Fin 16) (l : Fin 128), s.keep (ix2 r l)
    = ind (128 * r.val + l.val < 128 * j ∧ good (col x5) (128 * r.val + l.val))

theorem inv0 (x5 : Vec Ideal S5x16x128 .f32) : Inv x5 0 st0 where
  cnt := by
    rw [Nat.mul_zero, cnt_zero]
    show Ideal.ofBits .f32 0x00000000#32 = _
    simp
  a0 t := by rw [Nat.mul_zero, gather_zero]; show k0_pay6 (F := Ideal) (ix2 t 0) = 0; unfold_payloads; pointwise
  a1 t := by rw [Nat.mul_zero, gather_zero]; show k0_pay7 (F := Ideal) (ix2 t 0) = 0; unfold_payloads; pointwise
  a2 t := by rw [Nat.mul_zero, gather_zero]; show k0_pay8 (F := Ideal) (ix2 t 0) = 0; unfold_payloads; pointwise
  a3 t := by rw [Nat.mul_zero, gather_zero]; show k0_pay9 (F := Ideal) (ix2 t 0) = 0; unfold_payloads; pointwise
  keep r l := by
    rw [ind_not (by omega)]
    show k0_pay1 (F := Ideal) (Scalar.ofBits .f32 0x00000000#32) (ix2 r l) = 0
    unfold_payloads
    pointwise

section Step

variable {x5 : Vec Ideal S5x16x128 .f32} {j : Fin 16} {s : St Ideal} (I : Inv x5 j.val s)

include I

/-- The block's keep marks are the greedy choice. -/
theorem mk_at (l : Fin 128) : mk x5 j s.keep (ix2 0 l) = ind (kept (hits (col x5)) (128 * j.val + l.val)) := by
  have hj := j.isLt
  have hs (l : Fin 128) : supB x5 j s.keep (ix2 0 l) = ind (marked (hits (col x5)) (128 * j.val) (128 * j.val + l.val)) := by
    rw [supB_at x5 j s.keep (fun n => n < 128 * j.val ∧ good (col x5) n) I.keep]
    apply ind_congr
    constructor
    · rintro ⟨n, h1, ⟨h2, h3, h4⟩, h5⟩; exact ⟨n, h2, by omega, h3, h5⟩
    · rintro ⟨n, h1, h2, h3, h4⟩; exact ⟨n, by omega, ⟨h1, h3, by omega⟩, h4⟩
  unfold mk k0_pay67
  pointwise [trips_eq, marks_at x5 j _ hs 128 (le_refl _)]
  rw [one_sub_ind, kept_iff_not_marked _ (by have := l.isLt; omega : 128 * j.val + l.val ≤ 128 * j.val + 128)]

theorem masked_at (l : Fin 128) :
    k0_pay69 (mk x5 j s.keep) (k0_pay68 (F := Ideal) k0_pay4 (wd j)) zf (ix2 0 l) = ind (good (col x5) (128 * j.val + l.val)) := by
  unfold k0_pay69
  pointwise [mask_at, mk_at I, sel_ite]
  rw [ite_ind]
  exact ind_congr and_comm

theorem rank_at (l : Fin 128) :
    ((cnt (good (col x5)) (128 * j.val) : ℕ) : EReal) + ∑ l' : Fin 128, ind (good (col x5) (128 * j.val + l'.val) ∧ l'.val < l.val)
      = ((cnt (good (col x5)) (128 * j.val + l.val) : ℕ) : EReal) := by
  rw [cnt_add]
  congr 1
  rw [← Finset.sum_range (fun n => ind (good (col x5) (128 * j.val + n) ∧ n < l.val))]
  have hl := l.isLt
  rw [← Finset.sum_subset (Finset.range_subset_range.2 hl.le)]
  · refine Finset.sum_congr rfl fun n hn => ind_congr ⟨fun h => h.1, fun h => ⟨h, Finset.mem_range.1 hn⟩⟩
  · intro n _ hn
    exact ind_not fun h => hn (Finset.mem_range.2 h.2)

theorem acc_step (k : Fin 5) (a : FVec Ideal S304x1 .f32) (row : FVec Ideal S1x128 .f32)
    (ha : ∀ t : Fin 304, a (ix2 t 0) = gather (good (col x5)) (col x5 k) t.val (128 * j.val))
    (hr : ∀ l : Fin 128, row (ix2 0 l) = col x5 k (128 * j.val + l.val)) (t : Fin 304) :
    k0_pay72 k0_pay3 k0_pay5 s.cnt a row (mk x5 j s.keep) (k0_pay68 (F := Ideal) k0_pay4 (wd j)) zf (ix2 t 0)
      = gather (good (col x5)) (col x5 k) t.val (128 * (j.val + 1)) := by
  rw [acc_at _ _ _ _ _ (masked_at I), ha, I.cnt, Nat.mul_add, Nat.mul_one, gather_add]
  congr 1
  rw [Finset.sum_range]
  refine Finset.sum_congr rfl fun l _ => ?_
  rw [rank_at I, hr]
  congr 1
  refine ind_congr (and_comm.trans (and_congr Iff.rfl ?_))
  norm_cast

theorem inv_step : Inv x5 (j.val + 1) (step x5 j s) where
  cnt := by
    show k0_pay76 s.cnt _ _ _ = _
    rw [count_at _ _ _ _ _ (masked_at I), I.cnt, Nat.mul_add, Nat.mul_one, cnt_add, Finset.sum_range]
  a0 t := acc_step I 0 _ _ I.a0 (fun l => by unfold k0_pay44; pointwise [rd1_at]) t
  a1 t := acc_step I 1 _ _ I.a1 (fun l => by unfold k0_pay45; pointwise [rd2_at]) t
  a2 t := acc_step I 2 _ _ I.a2 (fun l => by unfold k0_pay46; pointwise [rd3_at]) t
  a3 t := acc_step I 3 _ _ I.a3 (fun l => by unfold k0_pay47; pointwise [rd4_at]) t
  keep r l := by
    show put s.keep (Rect.unit (s := S16x128) (k0_off7 (wd j)) S1x128.size (k0_off7_inb _ (chk j))) _ (ix2 r l) = _
    have hl := l.isLt
    have hoff := off7_eq j
    by_cases h : r = j
    · subst h
      have e : (Rect.unit (s := S16x128) (k0_off7 (wd r)) S1x128.size (k0_off7_inb _ (chk r))).emb (ix2 0 l) = ix2 r l := by
        funext a; apply Fin.ext
        rw [Rect.emb_apply]
        fin_cases a <;> simp [Rect.unit, hoff]
      have hv : k0_pay70 (mk x5 r s.keep) (k0_pay68 (F := Ideal) k0_pay4 (wd r)) zf (ix2 0 l)
          = ind (good (col x5) (128 * r.val + l.val)) := by
        unfold k0_pay70
        rw [shapeCast_self]
        exact masked_at I l
      rw [← e, put_emb]
      exact hv.trans (ind_congr ⟨fun q => ⟨by omega, q⟩, fun q => q.2⟩)
    · rw [put_of_ne, I.keep]
      · apply ind_congr
        have hne : r.val ≠ j.val := fun e => h (Fin.ext e)
        exact and_congr (by omega) Iff.rfl
      · intro i hi
        apply h
        have := congrArg Fin.val (congrFun hi 0)
        rw [Rect.emb_apply] at this
        simp [Rect.unit, hoff] at this
        have h0 : (i 0).val < 1 := (i 0).isLt
        exact Fin.ext (by omega)

end Step

/-- Once no block is left, or three hundred boxes are kept, the columns hold the kept boxes in order. -/
theorem inv_done {x5 : Vec Ideal S5x16x128 .f32} (k : Fin 5) {j : ℕ} (h : j = 16 ∨ ¬ ((cnt (good (col x5)) (128 * j) : ℕ) < 300))
    (t : ℕ) (ht : t < 300) :
    gather (good (col x5)) (col x5 k) t (128 * j) = pick (good (col x5)) 2000 (col x5 k) t :=
  gather_eq_pick _ _ (fun _ h => h.2) (h.imp (by omega) (by omega))

theorem more_iff {x5 : Vec Ideal S5x16x128 .f32} {j : ℕ} {s : St Ideal} (I : Inv x5 j s) :
    more s = 1#1 ↔ cnt (good (col x5)) (128 * j) < 300 := by
  unfold more
  show Ideal.cmp .olt s.cnt (Ideal.ofBits .f32 0x43960000#32) = 1#1 ↔ _
  rw [I.cnt, lit300]
  show BitVec.ofBool (decide _) = 1#1 ↔ _
  rw [WordCmp.ofBool_decide_eq_one_iff]
  have e : ((cnt (good (col x5)) (128 * j) : ℕ) : EReal) = (((cnt (good (col x5)) (128 * j) : ℕ) : ℝ) : EReal) := rfl
  rw [e, EReal.coe_lt_coe_iff]
  exact_mod_cast Iff.rfl

/-- What the loop leaves in the four columns. -/
theorem run_at {x5 : Vec Ideal S5x16x128 .f32} (k : ℕ) (hk : k ≤ 16) {s : St Ideal} (I : Inv x5 (16 - k) s) (t : Fin 304) (ht : t.val < 300) :
    (run x5 k hk s).a0 (ix2 t 0) = pick (good (col x5)) 2000 (col x5 0) t.val
      ∧ (run x5 k hk s).a1 (ix2 t 0) = pick (good (col x5)) 2000 (col x5 1) t.val
      ∧ (run x5 k hk s).a2 (ix2 t 0) = pick (good (col x5)) 2000 (col x5 2) t.val
      ∧ (run x5 k hk s).a3 (ix2 t 0) = pick (good (col x5)) 2000 (col x5 3) t.val := by
  have done {j : ℕ} {s : St Ideal} (I : Inv x5 j s) (h : j = 16 ∨ ¬ ((cnt (good (col x5)) (128 * j) : ℕ) < 300)) :=
    And.intro ((I.a0 t).trans (inv_done 0 h t.val ht)) (And.intro ((I.a1 t).trans (inv_done 1 h t.val ht))
      (And.intro ((I.a2 t).trans (inv_done 2 h t.val ht)) ((I.a3 t).trans (inv_done 3 h t.val ht))))
  induction k generalizing s with
  | zero => exact done I (.inl rfl)
  | succ k ih =>
    rw [run]
    by_cases h : more s = 1#1
    · rw [if_pos h]
      refine ih _ ?_
      have e : 16 - (k + 1) = 15 - k := by omega
      rw [e] at I
      have := inv_step (j := ⟨15 - k, by omega⟩) I
      have e' : 15 - k + 1 = 16 - k := by omega
      simpa only [e'] using this
    · rw [if_neg h]
      exact done I (.inr fun h' => h ((more_iff I).2 h'))

end Cert.KernelIdeal.Val

end
-- ==== Proof.Answer.lean ====
/- What both programs return: per batch, the first 300 proposals kept by the greedy suppression, in score order. -/
module

public import proofs.«01_k».proof.Proof.Greedy
public import proofs.«01_k».proof.Proof.Box
public import proofs.«01_k».proof.Proof.Lookup

@[expose] public section

noncomputable section

namespace Cert.Answer

open Cert.Greedy Cert.Box Cert.Lookup Idealize.ShloMosaic

variable (a0 : (⟨5, ![2, 2, 9, 64, 64]⟩ : Shape).Idx → EReal) (a1 : (⟨4, ![2, 36, 64, 64]⟩ : Shape).Idx → EReal)
variable (a2 : (⟨2, ![2, 3]⟩ : Shape).Idx → EReal)

/-- The corners and the area of batch `b`'s `n`-th proposal by score. -/
def prop (b : Fin 2) (k : Fin 5) (n : ℕ) : EReal :=
  if h : n < 2000 then box (pos a0 b ⟨n, h⟩).val (dl a1 b (pos a0 b ⟨n, h⟩)) (a2 (ix2 b 0)) (a2 (ix2 b 1)) k else 0

theorem prop_of_lt (b : Fin 2) (k : Fin 5) {n : ℕ} (h : n < 2000) :
    prop a0 a1 a2 b k n = box (pos a0 b ⟨n, h⟩).val (dl a1 b (pos a0 b ⟨n, h⟩)) (a2 (ix2 b 0)) (a2 (ix2 b 1)) k := dif_pos h

/-- An entry of the answer when box `i` suppresses box `j` as `sup` says. -/
def answer (sup : ℕ → ℕ → Prop) (C : Fin 5 → ℕ → EReal) (b : Fin 2) (s : ℕ) (k : Fin 5) : EReal :=
  if k = 0 then ((b.val : ℝ) : EReal) else pick (real sup 2000) 2000 (C ⟨k.val - 1, by omega⟩) s

/-- Only chosen boxes are read. -/
theorem pick_congr (p : ℕ → Prop) (M : ℕ) (c c' : ℕ → EReal) (h : ∀ n, n < M → c n = c' n) (s : ℕ) :
    pick p M c s = pick p M c' s := by
  unfold pick
  split
  · rename_i hs
    obtain ⟨n, hn, hp, hr⟩ := exists_rank p hs
    rw [nth_of_rank p hp hr, h n hn]
  · rfl

/-- Only pairs of proposals in order matter. -/
theorem answer_congr (sup sup' : ℕ → ℕ → Prop) (C : Fin 5 → ℕ → EReal) (h : ∀ i j, i < j → j < 2000 → (sup i j ↔ sup' i j)) :
    answer sup C = answer sup' C := by
  funext b s k
  unfold answer
  rw [real_congr sup sup' 2000 h]

end Cert.Answer

end
-- ==== Proof.KernelIdeal.Value.lean ====
/- The kernel's output array: row `s` of batch `b` is the batch's number and the `s`-th box kept, or zeros. -/
module

public import proofs.«01_k».proof.Proof.KernelIdeal.HostSide
public import proofs.«01_k».proof.Proof.KernelIdeal.Coords
public import proofs.«01_k».proof.Proof.KernelIdeal.Blocks
public import proofs.«01_k».proof.Proof.Answer
public import Idealize.ShloMosaic.Lib.Pipeline.ValueKit

@[expose] public section

noncomputable section

namespace Cert.KernelIdeal.Val

open Cert.KernelIdeal Cert.KernelIdeal.Gen Cert.KernelIdeal.Body Cert.Lookup Cert.Box Cert.Greedy Cert.Mem Cert.Answer
open Idealize.ShloMosaic Idealize.ShloMosaic.TcCoe
open Idealize.ShloMosaic.Pipeline (Dat)

variable (m : (ℓ : Loc nD τ sig) → Buf (Elt Ideal) ℓ) (c : Dev nD)

/-- Every window's block at point `t` is row `t` of its array. -/
theorem idx (t : Fin (cfg0 (F := Ideal)).N) :
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N,
    (win0_0.index t 0 = t.val ∧ win0_0.index t 1 = 0 ∧ win0_0.index t 2 = 0 ∧ win0_0.index t 3 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)) t

theorem two_points (t : Fin (cfg0 (F := Ideal)).N) : t.val < 2 := lt_of_lt_of_eq t.isLt (by decide +kernel : grid0.N = 2)

theorem blk0_at (t : Fin (cfg0 (F := Ideal)).N) (q : Fin 4) (r : Fin 16) (l : Fin 128) :
    iblk m c 0 t (ix4 0 q r l) = dels (m (c, Proc.tc.devRef main_arg0)) (m (c, Proc.tc.devRef main_arg1)) (ix4 ⟨t.val, two_points t⟩ q r l) := by
  rw [← V_dels]
  blk_ext [iblk, idx t]

theorem blk1_at (t : Fin (cfg0 (F := Ideal)).N) (r : Fin 16) (l : Fin 128) :
    iblk m c 1 t (ix3 0 r l) = nums (m (c, Proc.tc.devRef main_arg0)) (ix3 ⟨t.val, two_points t⟩ r l) := by
  rw [← V_nums]
  blk_ext [iblk, idx t]

theorem blk2_at (t : Fin (cfg0 (F := Ideal)).N) (k : Fin 8) (l : Fin 128) :
    iblk m c 2 t (ix3 0 k l) = imgs (m (c, Proc.tc.devRef main_arg2)) (ix3 ⟨t.val, two_points t⟩ k l) := by
  rw [← V_imgs]
  blk_ext [iblk, idx t]

/-- The output array, if every point's block is as `G` says. -/
theorem arr_of (G : Vec Ideal S2x300x5 .f32)
    (h : ∀ t : Fin (cfg0 (F := Ideal)).N, ∀ s k, outAt m c t (ix3 0 s k) = G (ix3 ⟨t.val, two_points t⟩ s k)) :
    (dats m 0 c).arrAt 3 (cfgs (F := Ideal) 0).N = G := by
  refine (dats m 0 c).arrAt_eq_of_covers 3 _ (by decide +kernel) fun t hf y => ?_
  blk_simp
  rw [after_3]
  have ey : (y : S1x300x5.Idx) = ix3 0 (y 1) (y 2) := by
    funext a; fin_cases a
    · exact Subsingleton.elim (α := Fin 1) _ _
    · rfl
    · rfl
  refine ((congrArg (outAt m c t) ey).trans (h t (y 1) (y 2))).trans ?_
  blk_ext [idx t]

section Entry

variable (t : Fin (cfg0 (F := Ideal)).N)

/-- The point's batch, and the core's arguments. -/
abbrev bat : Fin 2 := ⟨t.val, two_points t⟩
abbrev A0 : FVec Ideal S2x2x9x64x64 .f32 := m (c, Proc.tc.devRef main_arg0)
abbrev A1 : FVec Ideal S2x36x64x64 .f32 := m (c, Proc.tc.devRef main_arg1)
abbrev A2 : FVec Ideal S2x3 .f32 := m (c, Proc.tc.devRef main_arg2)

/-- The five planes the block loop reads are the proposals. -/
theorem col_coords (k : Fin 5) (n : ℕ) (hn : n < 2000) :
    col (coords (iblk m c 0 t) (iblk m c 1 t) (iblk m c 2 t)) k n = prop (A0 m c) (A1 m c) (A2 m c) (bat t) k n := by
  unfold col
  rw [dif_pos (by omega), prop_of_lt _ _ _ _ _ hn]
  have hr : 128 * (n / 128) + n % 128 = n := by omega
  have hr' : 128 * (n / 128) + n % 128 < 2000 := by omega
  have e : (⟨128 * (n / 128) + n % 128, hr'⟩ : Fin 2000) = ⟨n, hn⟩ := Fin.ext hr
  have h0 := nums_at (A0 m c) (bat t) ⟨n / 128, by omega⟩ ⟨n % 128, by omega⟩ hr'
  have hd := fun q => dels_at (A0 m c) (A1 m c) (bat t) q ⟨n / 128, by omega⟩ ⟨n % 128, by omega⟩ hr'
  rw [e] at h0
  simp only [e] at hd
  have hN := (pos (A0 m c) (bat t) ⟨n, hn⟩).isLt
  rw [coords_at (iblk m c 0 t) (iblk m c 1 t) (iblk m c 2 t) ⟨n / 128, by omega⟩ ⟨n % 128, by omega⟩ (pos (A0 m c) (bat t) ⟨n, hn⟩).val hN ?_ k]
  · rw [blk2_at m c t 0, blk2_at m c t 1, imgs_at0, imgs_at1]
    congr 1
    funext q
    unfold dAt
    rw [blk0_at, hd]
  · have e1 : ixs (iblk m c 1 t) (ix3 0 ⟨n / 128, by omega⟩ ⟨n % 128, by omega⟩) = iblk m c 1 t (ix3 0 ⟨n / 128, by omega⟩ ⟨n % 128, by omega⟩) := by
      unfold ixs Mem.get
      congr 1; funext a; apply Fin.ext; rw [Rect.emb_apply]; fin_cases a <;> simp [Rect.unit]
    rw [e1, blk1_at, h0]
    show (((BitVec.ofNat 32 _).toInt : ℝ) : EReal) = _
    rw [WordCmp.toInt_ofNat_of_lt (by omega), Int.cast_natCast]

theorem good_coords : good (col (coords (iblk m c 0 t) (iblk m c 1 t) (iblk m c 2 t))) = real (hits (prop (A0 m c) (A1 m c) (A2 m c) (bat t))) 2000 := by
  refine real_congr _ _ 2000 fun i j hij hj => ?_
  unfold hits
  simp only [col_coords m c t _ i (by omega), col_coords m c t _ j hj]

theorem pick_coords (k : Fin 5) (s : ℕ) :
    pick (good (col (coords (iblk m c 0 t) (iblk m c 1 t) (iblk m c 2 t)))) 2000 (col (coords (iblk m c 0 t) (iblk m c 1 t) (iblk m c 2 t)) k) s
      = pick (real (hits (prop (A0 m c) (A1 m c) (A2 m c) (bat t))) 2000) 2000 (prop (A0 m c) (A1 m c) (A2 m c) (bat t) k) s := by
  rw [good_coords]
  exact pick_congr _ _ _ _ (fun n hn => col_coords m c t k n hn) s

/-- The block point `t` leaves. -/
theorem outAt_at (s : Fin 300) (k : Fin 5) :
    outAt m c t (ix3 0 s k) = answer (hits (prop (A0 m c) (A1 m c) (A2 m c) (bat t))) (prop (A0 m c) (A1 m c) (A2 m c) (bat t)) (bat t) s.val k := by
  obtain ⟨h0, h1, h2, h3⟩ := run_at (x5 := coords (iblk m c 0 t) (iblk m c 1 t) (iblk m c 2 t)) 16 le_rfl (inv0 _) ⟨s.val, by omega⟩ s.isLt
  rw [pick_coords] at h0 h1 h2 h3
  unfold outAt outBlk k0_pay10
  pointwise
  have ht : (grid0.coords t 0).val = t.val := (by decide +kernel : ∀ t : Fin grid0.N, (grid0.coords t 0).val = t.val) t
  have e : (BitVec.ofNat 32 (grid0.coords t 0).val).toInt = (t.val : ℤ) := by
    have := two_points t
    rw [ht, WordCmp.toInt_ofNat_of_lt (by omega)]
  unfold answer
  fin_cases k
  · rw [e]; norm_cast
  · exact h0
  · exact h1
  · exact h2
  · exact h3

end Entry

/-- The answer over the core's arguments. -/
def kAns : Vec Ideal S2x300x5 .f32 := fun i =>
  answer (hits (prop (A0 m c) (A1 m c) (A2 m c) (i 0))) (prop (A0 m c) (A1 m c) (A2 m c) (i 0)) (i 0) (i 1).val (i 2)

/-- The output array after the run. -/
theorem arr : (dats m 0 c).arrAt 3 (cfgs (F := Ideal) 0).N = kAns m c :=
  arr_of m c _ fun t s k => outAt_at m c t s k

end Cert.KernelIdeal.Val

end
-- ==== Proof.Reference.Props.lean ====
/- The reference's proposals: the anchors shifted over the grid, the deltas applied, the corners clipped, and the first
   2000 by score. Entry by entry they are the proposals of `Box`. -/
module

public import proofs.«01_k».proof.Proof.Gen.ReferenceIdeal.Run
public import proofs.«01_k».proof.Proof.Answer
public import Idealize.ShloMosaic.Lib.StableHlo.RunRead

@[expose] public section

set_option maxRecDepth 4096

noncomputable section

namespace Cert.ReferenceIdeal.Val

open Cert.ReferenceIdeal Cert.ReferenceIdeal.Gen Cert.Lookup Cert.Box Cert.Answer
open Idealize.ShloMosaic Idealize.ShloMosaic.TcCoe Idealize.ShloMosaic.StableHlo

variable (a0 : FVec Ideal S2x2x9x64x64 .f32) (a1 : FVec Ideal S2x36x64x64 .f32) (a2 : FVec Ideal S2x3 .f32)

/-- The foreground scores in anchor order. -/
def fg : FVec Ideal S2x36864 .f32 :=
  shapeCast S2x36864 (transpose S2x64x64x9 [0, 2, 3, 1] (shapeCast S2x9x64x64
    (extractStridedSlice S2x1x9x64x64 ![0, 1, 0, 0, 0] a0 slices_S2x2x9x64x64_S2x1x9x64x64_0_1_0_0_0)
    shapeCasts_S2x1x9x64x64_S2x9x64x64) transposes_S2x9x64x64_S2x64x64x9_0_2_3_1) shapeCasts_S2x64x64x9_S2x36864

/-- The grid's places along one axis. -/
def grid : FVec Ideal S64 .f32 :=
  mulf (sitofp .f32 (iotaInDim S64 32 0)) (broadcastInDim S64 ![] bcast_S_S64 (constant S_ .f32 0x41800000#32))

/-- The columns of the places, over the whole grid. -/
def acrossX : FVec Ideal S4096x1 .f32 :=
  broadcastInDim S4096x1 ![0] bcast_S4096_S4096x1_0 (shapeCast S4096 (broadcastInDim S64x64 ![1] bcast_S64_S64x64_1 grid) shapeCasts_S64x64_S4096)
def acrossY : FVec Ideal S4096x1 .f32 :=
  broadcastInDim S4096x1 ![0] bcast_S4096_S4096x1_0 (shapeCast S4096 (broadcastInDim S64x64 ![0] bcast_S64_S64x64_0 grid) shapeCasts_S64x64_S4096)

def shifts : FVec Ideal S4096x4 .f32 :=
  concatenate S4096x4 1 [⟨S4096x1, acrossX⟩, ⟨S4096x1, acrossY⟩, ⟨S4096x1, acrossX⟩, ⟨S4096x1, acrossY⟩] concatenates_S4096x1_S4096x1_S4096x1_S4096x1_S4096x4_d1

/-- The nine anchors as the program lists them. -/
def shapes : FVec Ideal S9x4 .f32 := fun i => FloatOps.ofBits .f32 (lit0 (S9x4.rowMajor i))

/-- Every anchor's corners, in both batches. -/
def anchors : FVec Ideal S2x36864x4 .f32 :=
  broadcastInDim S2x36864x4 ![0, 1, 2] bcast_S1x36864x4_S2x36864x4_0_1_2 (shapeCast S1x36864x4
    (addf (broadcastInDim S4096x9x4 ![0, 1, 2] bcast_S1x9x4_S4096x9x4_0_1_2 (broadcastInDim S1x9x4 ![1, 2] bcast_S9x4_S1x9x4_1_2 shapes))
      (broadcastInDim S4096x9x4 ![0, 1, 2] bcast_S4096x1x4_S4096x9x4_0_1_2 (broadcastInDim S4096x1x4 ![0, 2] bcast_S4096x4_S4096x1x4_0_2 shifts)))
    shapeCasts_S4096x9x4_S1x36864x4)

/-- The deltas in anchor order. -/
def moves : FVec Ideal S2x36864x4 .f32 :=
  shapeCast S2x36864x4 (transpose S2x64x64x36 [0, 2, 3, 1] a1 transposes_S2x36x64x64_S2x64x64x36_0_2_3_1) shapeCasts_S2x64x64x36_S2x36864x4

section Columns

variable (x : FVec Ideal S2x36864x4 .f32)

def col0 : FVec Ideal S2x36864 .f32 := shapeCast S2x36864 (extractStridedSlice S2x36864x1 ![0, 0, 0] x slices_S2x36864x4_S2x36864x1_0_0_0) shapeCasts_S2x36864x1_S2x36864
def col1 : FVec Ideal S2x36864 .f32 := shapeCast S2x36864 (extractStridedSlice S2x36864x1 ![0, 0, 1] x slices_S2x36864x4_S2x36864x1_0_0_1) shapeCasts_S2x36864x1_S2x36864
def col2 : FVec Ideal S2x36864 .f32 := shapeCast S2x36864 (extractStridedSlice S2x36864x1 ![0, 0, 2] x slices_S2x36864x4_S2x36864x1_0_0_2) shapeCasts_S2x36864x1_S2x36864
def col3 : FVec Ideal S2x36864 .f32 := shapeCast S2x36864 (extractStridedSlice S2x36864x1 ![0, 0, 3] x slices_S2x36864x4_S2x36864x1_0_0_3) shapeCasts_S2x36864x1_S2x36864

end Columns

/-- A number at every anchor. -/
def all (w : BitVec 32) : FVec Ideal S2x36864 .f32 := broadcastInDim S2x36864 ![] bcast_S_S2x36864 (constant S_ .f32 w)

/-! One axis: the anchors' extents from their first and last corners, their centres, the moved centres and extents, and the corners. -/

section Axis

variable (p q d e : FVec Ideal S2x36864 .f32) (im : FVec Ideal S2x1 .f32)

def wide : FVec Ideal S2x36864 .f32 := addf (subf q p) (all 0x3F800000#32)
def mid : FVec Ideal S2x36864 .f32 := addf (mulf d (wide p q)) (addf p (mulf (all 0x3F000000#32) (wide p q)))
def reach : FVec Ideal S2x36864 .f32 := mulf (all 0x3F000000#32) (mulf (Host.exp e) (wide p q))
def fit (x : FVec Ideal S2x36864 .f32) : FVec Ideal S2x36864 .f32 :=
  minimumf (maximumf x (all 0x00000000#32)) (broadcastInDim S2x36864 ![0, 1] bcast_S2x1_S2x36864_0_1
    (subf im (broadcastInDim S2x1 ![] bcast_S_S2x1 (constant S_ .f32 0x3F800000#32))))
def low : FVec Ideal S2x36864 .f32 := fit im (subf (mid p q d) (reach p q e))
def high : FVec Ideal S2x36864 .f32 := fit im (addf (mid p q d) (reach p q e))

end Axis

/-- The images' heights and widths. -/
def tall : FVec Ideal S2x1 .f32 := broadcastInDim S2x1 ![0] bcast_S2_S2x1_0 (shapeCast S2 (extractStridedSlice S2x1 ![0, 0] a2 slices_S2x3_S2x1_0_0) shapeCasts_S2x1_S2)
def broad : FVec Ideal S2x1 .f32 := broadcastInDim S2x1 ![0] bcast_S2_S2x1_0 (shapeCast S2 (extractStridedSlice S2x1 ![0, 1] a2 slices_S2x3_S2x1_0_1) shapeCasts_S2x1_S2)

def left : FVec Ideal S2x36864 .f32 := low (col0 anchors) (col2 anchors) (col0 (moves a1)) (col2 (moves a1)) (broad a2)
def upper : FVec Ideal S2x36864 .f32 := low (col1 anchors) (col3 anchors) (col1 (moves a1)) (col3 (moves a1)) (tall a2)
def right : FVec Ideal S2x36864 .f32 := high (col0 anchors) (col2 anchors) (col0 (moves a1)) (col2 (moves a1)) (broad a2)
def lower : FVec Ideal S2x36864 .f32 := high (col1 anchors) (col3 anchors) (col1 (moves a1)) (col3 (moves a1)) (tall a2)

/-- A column of corners. -/
def column (x : FVec Ideal S2x36864 .f32) : FVec Ideal S2x36864x1 .f32 := broadcastInDim S2x36864x1 ![0, 1] bcast_S2x36864_S2x36864x1_0_1 x

/-- All proposals' corners. -/
def corners : FVec Ideal S2x36864x4 .f32 :=
  concatenate S2x36864x4 2 [⟨S2x36864x1, column (left a1 a2)⟩, ⟨S2x36864x1, column (upper a1 a2)⟩,
    ⟨S2x36864x1, column (right a1 a2)⟩, ⟨S2x36864x1, column (lower a1 a2)⟩] concatenates_S2x36864x1_S2x36864x1_S2x36864x1_S2x36864x1_S2x36864x4_d2

/-- The numbers of the first 2000 anchors by score. -/
def first : IVec S2x2000x1 32 :=
  broadcastInDim S2x2000x1 ![0, 1] bcast_S2x2000_S2x2000x1_0_1 (Host.topK S2x2000 1 (FloatOps.cmpfTotal .gt) (fg a0) sliceFits_S2x36864_S2x2000).2

section Read

variable (V : Valuation τ sig (Elt Ideal))

/-- The stretch before the shifts are joined, from there to the corners' columns, and the rest. -/
abbrev opsA : List (HloOp τ sig (Elt Ideal)) := hostOps0.take 22
abbrev opsB : List (HloOp τ sig (Elt Ideal)) := (hostOps0.take 135).drop 22
abbrev opsC : List (HloOp τ sig (Elt Ideal)) := hostOps0.drop 135

theorem cut : after hostOps0 V = after opsC (after opsB (after opsA V)) := by
  rw [← after_append, ← after_append]
  rfl

theorem read_shifts : after opsA V (Proc.devRef .tc main_v18) = shifts := by
  have h14 : upto opsA V 21 (Proc.devRef .tc main_v14) = acrossX := by after_reads_simp; rfl
  have h15 : upto opsA V 21 (Proc.devRef .tc main_v15) = acrossY := by after_reads_simp; rfl
  have h16 : upto opsA V 21 (Proc.devRef .tc main_v16) = acrossX := by after_reads_simp; rfl
  have h17 : upto opsA V 21 (Proc.devRef .tc main_v17) = acrossY := by after_reads_simp; rfl
  after_reads_simp
  show concatenate S4096x4 1 [⟨S4096x1, upto opsA V 21 (Proc.devRef .tc main_v14)⟩, ⟨S4096x1, upto opsA V 21 (Proc.devRef .tc main_v15)⟩,
    ⟨S4096x1, upto opsA V 21 (Proc.devRef .tc main_v16)⟩, ⟨S4096x1, upto opsA V 21 (Proc.devRef .tc main_v17)⟩] _ = _
  rw [h14, h15, h16, h17]
  rfl

theorem read_shapes : after opsA V (Proc.devRef .tc main_cst) = shapes := by after_reads_simp; rfl
theorem read_fg : after opsA V (Proc.devRef .tc main_v1) = shapeCast S2x9x64x64
    (extractStridedSlice S2x1x9x64x64 ![0, 1, 0, 0, 0] (V (Proc.devRef .tc main_arg0)) slices_S2x2x9x64x64_S2x1x9x64x64_0_1_0_0_0)
    shapeCasts_S2x1x9x64x64_S2x9x64x64 := by after_reads_simp; rfl
theorem read_arg1 : after opsA V (Proc.devRef .tc main_arg1) = V (Proc.devRef .tc main_arg1) := by after_reads_simp
theorem read_arg2 : after opsA V (Proc.devRef .tc main_arg2) = V (Proc.devRef .tc main_arg2) := by after_reads_simp

/-- The four columns, read off the middle stretch. -/
theorem read_columns : let x := V (Proc.devRef .tc main_arg1); let y := V (Proc.devRef .tc main_arg2)
    after opsB (after opsA V) (Proc.devRef .tc main_v112) = column (left x y)
    ∧ after opsB (after opsA V) (Proc.devRef .tc main_v113) = column (upper x y)
    ∧ after opsB (after opsA V) (Proc.devRef .tc main_v114) = column (right x y)
    ∧ after opsB (after opsA V) (Proc.devRef .tc main_v115) = column (lower x y) := by
  dsimp only
  rw [← read_arg1 V, ← read_arg2 V]
  have h := read_shifts V
  have h' := read_shapes V
  generalize after opsA V = W at h h' ⊢
  refine ⟨?_, ?_, ?_, ?_⟩
  all_goals
    after_reads_simp
    rw [h, h']
    rfl

theorem read_scores : after opsB (after opsA V) (Proc.devRef .tc main_v29) = fg (V (Proc.devRef .tc main_arg0)) := by
  have h := read_fg V
  generalize after opsA V = W at h ⊢
  after_reads_simp
  rw [h]
  rfl

theorem read_corners : after hostOps0 V (Proc.devRef .tc main_v116)
    = corners (V (Proc.devRef .tc main_arg1)) (V (Proc.devRef .tc main_arg2)) := by
  rw [cut]
  obtain ⟨h0, h1, h2, h3⟩ := read_columns V
  unfold corners
  rw [← h0, ← h1, ← h2, ← h3]
  generalize after opsB (after opsA V) = W
  have k0 : upto opsC W 0 = W := upto_zero _ _
  after_reads_simp
  show concatenate S2x36864x4 2 [⟨S2x36864x1, upto opsC W 0 (Proc.devRef .tc main_v112)⟩, ⟨S2x36864x1, upto opsC W 0 (Proc.devRef .tc main_v113)⟩,
    ⟨S2x36864x1, upto opsC W 0 (Proc.devRef .tc main_v114)⟩, ⟨S2x36864x1, upto opsC W 0 (Proc.devRef .tc main_v115)⟩] _ = _
  rw [k0]

theorem read_first : after hostOps0 V (Proc.devRef .tc main_v117) = first (V (Proc.devRef .tc main_arg0)) := by
  rw [cut]
  have h := read_scores V
  generalize after opsB (after opsA V) = W at h ⊢
  after_reads_simp
  rw [h]
  rfl

end Read

/-! ## Entries -/

theorem lit_half : Ideal.ofBits .f32 0x3F000000#32 = ((1 / 2 : ℝ) : EReal) := by
  simp [Ideal.ofBits, Ideal.ieee]; norm_cast; norm_num
theorem lit_one : Ideal.ofBits .f32 0x3F800000#32 = 1 := by
  simp [Ideal.ofBits, Ideal.ieee]; norm_cast; try norm_num
theorem lit_zero : Ideal.ofBits .f32 0x00000000#32 = 0 := by
  simp [Ideal.ofBits, Ideal.ieee]
theorem lit_sixteen : Ideal.ofBits .f32 0x41800000#32 = ((16 : ℝ) : EReal) := by
  simp [Ideal.ofBits, Ideal.ieee]; norm_cast; norm_num

theorem fg_at (b : Fin 2) (q : Fin 36864) : fg a0 (ix2 b q) = sc a0 b q := by
  have e : q.val / 9 / 64 = q.val / 576 := by omega
  unfold fg
  pointwise
  simp only [sc, e]

theorem moves_at (b : Fin 2) (N : Fin 36864) (q : Fin 4) : moves a1 (ix3 b N q) = dl a1 b N q := by
  have e : N.val / 9 / 64 = N.val / 576 := by omega
  unfold moves
  pointwise
  simp only [dl, e]

theorem first_at (b : Fin 2) (s : Fin 2000) : first a0 (ix3 b s 0) = BitVec.ofNat 32 (pos a0 b s).val := by
  have e : (fun q => fg a0 (ix2 b q)) = sc a0 b := funext (fg_at a0 b)
  unfold first
  pointwise
  unfold pos
  rw [← e]
  exact topK_at (by omega) (fg a0) sliceFits_S2x36864_S2x2000 b s

theorem grid_at (g : Fin 64) : grid (ix1 g) = ((16 * g.val : ℝ) : EReal) := by
  unfold grid
  pointwise [lit_sixteen]
  show (((BitVec.ofNat 32 g.val).toInt : ℝ) : EReal) * _ = _
  rw [WordCmp.toInt_ofNat_of_lt (by omega), Int.cast_natCast, ← EReal.coe_mul, mul_comm]

theorem shifts_at (g : Fin 4096) (k : Fin 4) :
    shifts (ix2 g k) = if k = 0 ∨ k = 2 then ((16 * (g.val % 64 : ℕ) : ℝ) : EReal) else ((16 * (g.val / 64 : ℕ) : ℝ) : EReal) := by
  unfold shifts acrossX acrossY
  fin_cases k
  all_goals pointwise [grid_at]
  all_goals simp

theorem anchors_at (b : Fin 2) (N : Fin 36864) (k : Fin 4) :
    anchors (ix3 b N k) = shapes (ix2 ⟨N.val % 9, by omega⟩ k) + shifts (ix2 ⟨N.val / 9, by omega⟩ k) := by
  unfold anchors
  pointwise

/-- A float word is a whole number: its exponent field is in the normal range and its mantissa, scaled, is that number. -/
def Whole (w : BitVec 32) (z : ℤ) : Prop :=
  (w.extractLsb' 23 8).toNat ≠ 2 ^ 8 - 1 ∧ (w.extractLsb' 23 8).toNat ≠ 0 ∧ (w.extractLsb' 23 8).toNat ≤ 150
    ∧ (if w.extractLsb' 31 1 == 1#1 then -1 else 1) * ((2 ^ 23 + (w.extractLsb' 0 23).toNat : ℕ) : ℤ) = z * 2 ^ (150 - (w.extractLsb' 23 8).toNat)

instance (w : BitVec 32) (z : ℤ) : Decidable (Whole w z) := by unfold Whole; infer_instance

theorem ofBits_whole {w : BitVec 32} {z : ℤ} (h : Whole w z) : Ideal.ofBits .f32 w = ((z : ℝ) : EReal) := by
  obtain ⟨h1, h2, h3, h4⟩ := h
  show Ideal.ieee 8 23 w = _
  unfold Ideal.ieee
  dsimp only
  rw [if_neg h1, if_neg h2]
  congr 1
  generalize (w.extractLsb' 23 8).toNat = ex at *
  have h5 : (if (w.extractLsb' 31 1 == 1#1) = true then (-1 : ℝ) else 1) * ((2 ^ 23 + (w.extractLsb' 0 23).toNat : ℕ) : ℝ) = (z : ℝ) * 2 ^ (150 - ex) := by
    have := congrArg (Int.cast : ℤ → ℝ) h4
    push_cast at this ⊢
    exact this
  rw [show (8 + 23 : ℕ) = 31 from rfl, h5]
  have h6 : ((ex : ℤ) - (2 ^ (8 - 1) - 1) - (23 : ℕ)) = -((150 - ex : ℕ) : ℤ) := by
    push_cast [h3]; ring
  rw [h6, mul_assoc, zpow_neg, zpow_natCast, mul_inv_cancel₀ (by positivity), mul_one]

/-- Half the anchors' widths and heights. -/
def halfW (a : Fin 9) : ℤ := ![92, 184, 368, 64, 128, 256, 44, 88, 176] a
def halfH (a : Fin 9) : ℤ := ![48, 96, 192, 64, 128, 256, 88, 176, 352] a

theorem wOf_eq (a : Fin 9) : wOf a.val = 2 * (halfW a : ℝ) := by
  fin_cases a <;> norm_num [wOf, halfW]
theorem hOf_eq (a : Fin 9) : hOf a.val = 2 * (halfH a : ℝ) := by
  fin_cases a <;> norm_num [hOf, halfH]

/-- An anchor's corner, around (7.5, 7.5). -/
def edge (a : Fin 9) (k : Fin 4) : ℤ := ![8 - halfW a, 8 - halfH a, 7 + halfW a, 7 + halfH a] k

theorem shapes_at (a : Fin 9) (k : Fin 4) : shapes (ix2 a k) = ((edge a k : ℝ) : EReal) := by
  have e : ∀ (a : Fin 9) (k : Fin 4), Whole (lit0 (S9x4.rowMajor (ix2 a k))) (edge a k) := by decide +kernel
  exact ofBits_whole (e a k)

/-- Anchor `N`'s corners, shifted. -/
theorem anchor_at (b : Fin 2) (N : Fin 36864) (k : Fin 4) (g : ℕ) (h : g = if k = 0 ∨ k = 2 then N.val / 9 % 64 else N.val / 9 / 64) :
    anchors (ix3 b N k) = (((edge ⟨N.val % 9, by omega⟩ k : ℝ) + 16 * (g : ℝ) : ℝ) : EReal) := by
  rw [anchors_at, shapes_at, shifts_at, EReal.coe_add, h]
  split <;> rfl

section Axis

variable (p q d e : FVec Ideal S2x36864 .f32) (im : FVec Ideal S2x1 .f32) (b : Fin 2) (N : Fin 36864)
variable (w : ℝ) (g : ℕ) (hp : p (ix2 b N) = ((8 - w / 2 + 16 * (g : ℝ) : ℝ) : EReal)) (hq : q (ix2 b N) = ((7 + w / 2 + 16 * (g : ℝ) : ℝ) : EReal))

include hp hq

theorem wide_at : wide p q (ix2 b N) = (w : EReal) := by
  unfold wide all
  pointwise [hp, hq, lit_one]
  rw [← EReal.coe_sub, ← EReal.coe_one, ← EReal.coe_add]
  congr 1
  ring

theorem mid_at : mid p q d (ix2 b N) = ctr (d (ix2 b N)) w g := by
  unfold mid all ctr
  pointwise [wide_at p q b N w g hp hq, hp, lit_half]
  rw [← EReal.coe_mul, ← EReal.coe_add]
  congr 2
  ring

theorem reach_at : reach p q e (ix2 b N) = half * ext (e (ix2 b N)) w := by
  unfold reach all ext half
  pointwise [wide_at p q b N w g hp hq]

theorem low_at : low p q d e im (ix2 b N) = lo (d (ix2 b N)) (e (ix2 b N)) w g (im (ix2 b 0)) := by
  unfold low fit all lo
  pointwise [mid_at p q d b N w g hp hq, reach_at p q e b N w g hp hq, lit_one, lit_zero]

theorem high_at : high p q d e im (ix2 b N) = hi (d (ix2 b N)) (e (ix2 b N)) w g (im (ix2 b 0)) := by
  unfold high fit all hi
  pointwise [mid_at p q d b N w g hp hq, reach_at p q e b N w g hp hq, lit_one, lit_zero]

end Axis

theorem col0_at (x : FVec Ideal S2x36864x4 .f32) (b : Fin 2) (N : Fin 36864) : col0 x (ix2 b N) = x (ix3 b N 0) := by unfold col0; pointwise
theorem col1_at (x : FVec Ideal S2x36864x4 .f32) (b : Fin 2) (N : Fin 36864) : col1 x (ix2 b N) = x (ix3 b N 1) := by unfold col1; pointwise
theorem col2_at (x : FVec Ideal S2x36864x4 .f32) (b : Fin 2) (N : Fin 36864) : col2 x (ix2 b N) = x (ix3 b N 2) := by unfold col2; pointwise
theorem col3_at (x : FVec Ideal S2x36864x4 .f32) (b : Fin 2) (N : Fin 36864) : col3 x (ix2 b N) = x (ix3 b N 3) := by unfold col3; pointwise
theorem tall_at (b : Fin 2) : tall a2 (ix2 b 0) = a2 (ix2 b 0) := by unfold tall; pointwise
theorem broad_at (b : Fin 2) : broad a2 (ix2 b 0) = a2 (ix2 b 1) := by unfold broad; pointwise

section Ends

variable (b : Fin 2) (N : Fin 36864)

theorem end0 : col0 anchors (ix2 b N) = ((8 - wOf (N.val % 9) / 2 + 16 * ((N.val / 9 % 64 : ℕ) : ℝ) : ℝ) : EReal) := by
  rw [col0_at, anchor_at b N 0 _ rfl, (wOf_eq ⟨N.val % 9, by omega⟩ : wOf (N.val % 9) = _)]
  simp [edge]
theorem end1 : col1 anchors (ix2 b N) = ((8 - hOf (N.val % 9) / 2 + 16 * ((N.val / 9 / 64 : ℕ) : ℝ) : ℝ) : EReal) := by
  rw [col1_at, anchor_at b N 1 _ rfl, (hOf_eq ⟨N.val % 9, by omega⟩ : hOf (N.val % 9) = _)]
  simp [edge]
theorem end2 : col2 anchors (ix2 b N) = ((7 + wOf (N.val % 9) / 2 + 16 * ((N.val / 9 % 64 : ℕ) : ℝ) : ℝ) : EReal) := by
  rw [col2_at, anchor_at b N 2 _ rfl, (wOf_eq ⟨N.val % 9, by omega⟩ : wOf (N.val % 9) = _)]
  simp [edge]
theorem end3 : col3 anchors (ix2 b N) = ((7 + hOf (N.val % 9) / 2 + 16 * ((N.val / 9 / 64 : ℕ) : ℝ) : ℝ) : EReal) := by
  rw [col3_at, anchor_at b N 3 _ rfl, (hOf_eq ⟨N.val % 9, by omega⟩ : hOf (N.val % 9) = _)]
  simp [edge]

theorem left_at : left a1 a2 (ix2 b N) = bx1 N.val (dl a1 b N) (a2 (ix2 b 1)) := by
  unfold left bx1
  rw [low_at _ _ _ _ _ b N _ _ (end0 b N) (end2 b N), col0_at, col2_at, moves_at, moves_at, broad_at]
theorem upper_at : upper a1 a2 (ix2 b N) = by1 N.val (dl a1 b N) (a2 (ix2 b 0)) := by
  unfold upper by1
  rw [low_at _ _ _ _ _ b N _ _ (end1 b N) (end3 b N), col1_at, col3_at, moves_at, moves_at, tall_at]
theorem right_at : right a1 a2 (ix2 b N) = bx2 N.val (dl a1 b N) (a2 (ix2 b 1)) := by
  unfold right bx2
  rw [high_at _ _ _ _ _ b N _ _ (end0 b N) (end2 b N), col0_at, col2_at, moves_at, moves_at, broad_at]
theorem lower_at : lower a1 a2 (ix2 b N) = by2 N.val (dl a1 b N) (a2 (ix2 b 0)) := by
  unfold lower by2
  rw [high_at _ _ _ _ _ b N _ _ (end1 b N) (end3 b N), col1_at, col3_at, moves_at, moves_at, tall_at]

/-- All corners are the proposals' corners. -/
theorem corners_at (k : Fin 4) : corners a1 a2 (ix3 b N k) = box N.val (dl a1 b N) (a2 (ix2 b 0)) (a2 (ix2 b 1)) k.castSucc := by
  unfold corners column
  fin_cases k
  · pointwise [left_at]
    rfl
  · pointwise [upper_at]
    rfl
  · pointwise [right_at]
    rfl
  · pointwise [lower_at]
    rfl

end Ends

end Cert.ReferenceIdeal.Val

end
-- ==== Proof.Reference.Pairs.lean ====
/- The reference's chosen boxes and the overlap of every pair of them, at the entry of its loop. -/
module

public import proofs.«01_k».proof.Proof.Reference.Props
public import proofs.«01_k».proof.Proof.KernelIdeal.Reads

@[expose] public section

set_option maxRecDepth 4096

noncomputable section

namespace Cert.ReferenceIdeal.Val

open Cert.ReferenceIdeal Cert.ReferenceIdeal.Gen Cert.ReferenceIdeal.Value Cert.Lookup Cert.Box Cert.Answer Cert.KernelIdeal.Val
open Idealize.ShloMosaic Idealize.ShloMosaic.TcCoe Idealize.ShloMosaic.StableHlo

/-! ## The boxes looked up -/

section Chosen

variable (x : FVec Ideal S2x36864x4 .f32) (w : IVec S2x2000x1 32)

/-- The numbers with negative ones counted from the end, and where they are in range. -/
def placed : IVec S2x2000x1 32 :=
  select (cmpi .slt w (broadcastInDim S2x2000x1 ![] bcast_S_S2x2000x1 (constantI S_ 32 0#32)))
    (addi w (broadcastInDim S2x2000x1 ![] bcast_S_S2x2000x1 (constantI S_ 32 36864#32))) w
def valid : IVec S2x2000 1 :=
  Host.reduce IntOp.andi (andi (cmpi .sge (placed w) (broadcastInDim S2x2000x1 ![] bcast_S_S2x2000x1 (constantI S_ 32 0#32)))
    (cmpi .sle (placed w) (broadcastInDim S2x2000x1 ![0, 1, 2] bcast_S1x1x1_S2x2000x1_0_1_2
      (broadcastInDim S1x1x1 ![2] bcast_S1_S1x1x1_2 (constantI S1 32 36863#32))))) (constantI S_ 1 1#1) reducesTo_S2x2000x1_S2x2000_d2 h_S_

/-- The boxes at the numbers. -/
def chosen : FVec Ideal S2x2000x4 .f32 :=
  select (broadcastInDim S2x2000x4 ![0, 1] bcast_S2x2000_S2x2000x4_0_1 (valid w))
    (Host.gather gather_S2x36864x4_S2x2000x1_S2x2000x4_2_1_0_0_1_2_114 x (placed w))
    (broadcastInDim S2x2000x4 ![] bcast_S_S2x2000x4 (constant S_ .f32 0x7FC00000#32))

theorem read_chosen (V : Valuation τ sig (Elt Ideal)) : after hostOps0_1 V (Proc.devRef .tc main_v118)
    = chosen (V (Proc.devRef .tc main_v116)) (V (Proc.devRef .tc main_v117)) := by
  after_reads_simp
  simp only [StableHlo.TRef.ofBuf_toBuf]
  rfl

variable (b : Fin 2) (s : Fin 2000) (N : Fin 36864) (h : w (ix3 b s 0) = BitVec.ofNat 32 N.val)

include h in
theorem placed_at : placed w (ix3 b s 0) = BitVec.ofNat 32 N.val := by
  have := N.isLt
  unfold placed
  pointwise [h]
  exact not_from_end (by omega) _ _

include h in
theorem valid_at : valid w (ix2 b s) = 1#1 := by
  have := N.isLt
  unfold valid
  pointwise
  refine fold_one _ ?_
  rw [placed_at w b s N h]
  exact passes (M := 36863) (by omega) (by omega)

include h in
theorem chosen_at (q : Fin 4) : chosen x w (ix3 b s q) = x (ix3 b N q) := by
  unfold chosen
  pointwise [valid_at w b s N h]
  exact gather_at (n := 36864) (k := 2000) _ x _ b s q N.val N.isLt (by omega) (placed_at w b s N h)

end Chosen

/-! ## Every pair of boxes -/

section Pairs

variable (x : FVec Ideal S2x2000x4 .f32)

def side0 : FVec Ideal S2x2000 .f32 := shapeCast S2x2000 (extractStridedSlice S2x2000x1 ![0, 0, 0] x slices_S2x2000x4_S2x2000x1_0_0_0) shapeCasts_S2x2000x1_S2x2000
def side1 : FVec Ideal S2x2000 .f32 := shapeCast S2x2000 (extractStridedSlice S2x2000x1 ![0, 0, 1] x slices_S2x2000x4_S2x2000x1_0_0_1) shapeCasts_S2x2000x1_S2x2000
def side2 : FVec Ideal S2x2000 .f32 := shapeCast S2x2000 (extractStridedSlice S2x2000x1 ![0, 0, 2] x slices_S2x2000x4_S2x2000x1_0_0_2) shapeCasts_S2x2000x1_S2x2000
def side3 : FVec Ideal S2x2000 .f32 := shapeCast S2x2000 (extractStridedSlice S2x2000x1 ![0, 0, 3] x slices_S2x2000x4_S2x2000x1_0_0_3) shapeCasts_S2x2000x1_S2x2000

/-- A number per box, at the pair's first and at its second box; a number at every pair. -/
def fst (y : FVec Ideal S2x2000 .f32) : FVec Ideal S2x2000x2000 .f32 :=
  broadcastInDim S2x2000x2000 ![0, 1, 2] bcast_S2x2000x1_S2x2000x2000_0_1_2 (broadcastInDim S2x2000x1 ![0, 1] bcast_S2x2000_S2x2000x1_0_1 y)
def snd (y : FVec Ideal S2x2000 .f32) : FVec Ideal S2x2000x2000 .f32 :=
  broadcastInDim S2x2000x2000 ![0, 1, 2] bcast_S2x1x2000_S2x2000x2000_0_1_2 (broadcastInDim S2x1x2000 ![0, 2] bcast_S2x2000_S2x1x2000_0_2 y)
def every (w : BitVec 32) : FVec Ideal S2x2000x2000 .f32 := broadcastInDim S2x2000x2000 ![] bcast_S_S2x2000x2000 (constant S_ .f32 w)

def sizes : FVec Ideal S2x2000 .f32 :=
  mulf (addf (subf (side2 x) (side0 x)) (broadcastInDim S2x2000 ![] bcast_S_S2x2000 (constant S_ .f32 0x3F800000#32)))
    (addf (subf (side3 x) (side1 x)) (broadcastInDim S2x2000 ![] bcast_S_S2x2000 (constant S_ .f32 0x3F800000#32)))
/-- The extent two boxes share along one axis. -/
def shared (p q : FVec Ideal S2x2000 .f32) : FVec Ideal S2x2000x2000 .f32 :=
  maximumf (addf (subf (minimumf (fst q) (snd q)) (maximumf (fst p) (snd p))) (every 0x3F800000#32)) (every 0x00000000#32)
def common : FVec Ideal S2x2000x2000 .f32 := mulf (shared (side0 x) (side2 x)) (shared (side1 x) (side3 x))
/-- The overlap over the union. -/
def iou : FVec Ideal S2x2000x2000 .f32 := Host.divf (common x) (subf (addf (fst (sizes x)) (snd (sizes x))) (common x))

theorem read_iou (V : Valuation τ sig (Elt Ideal)) : after hostOps0_2 V (Proc.devRef .tc main_v175_0) = iou (V (Proc.devRef .tc main_v118)) := by
  after_reads_simp
  rfl

/-- The numbers of the boxes in a row. -/
def line : IVec S1x2000 32 := broadcastInDim S1x2000 ![1] bcast_S2000_S1x2000_1 (iotaInDim S2000 32 0)

theorem read_line (V : Valuation τ sig (Elt Ideal)) : after hostOps0_2 V (Proc.devRef .tc main_v175_1) = line := by
  after_reads_simp
  rfl
theorem read_count (V : Valuation τ sig (Elt Ideal)) : after hostOps0_2 V (Proc.devRef .tc main_v175_3) = constantI S_ 32 0#32 := by
  after_reads_simp
  rfl
theorem read_keep (V : Valuation τ sig (Elt Ideal)) : after hostOps0_2 V (Proc.devRef .tc main_v175_4)
    = broadcastInDim S2x2000 ![] bcast_S_S2x2000 (constantI S_ 1 1#1) := by
  after_reads_simp
  rfl
theorem read_boxes (V : Valuation τ sig (Elt Ideal)) : after hostOps0_2 V (Proc.devRef .tc main_v118) = V (Proc.devRef .tc main_v118) := by
  after_reads_simp

theorem side0_at (b : Fin 2) (s : Fin 2000) : side0 x (ix2 b s) = x (ix3 b s 0) := by unfold side0; pointwise
theorem side1_at (b : Fin 2) (s : Fin 2000) : side1 x (ix2 b s) = x (ix3 b s 1) := by unfold side1; pointwise
theorem side2_at (b : Fin 2) (s : Fin 2000) : side2 x (ix2 b s) = x (ix3 b s 2) := by unfold side2; pointwise
theorem side3_at (b : Fin 2) (s : Fin 2000) : side3 x (ix2 b s) = x (ix3 b s 3) := by unfold side3; pointwise

theorem sizes_at (b : Fin 2) (s : Fin 2000) : sizes x (ix2 b s) = area (x (ix3 b s 0)) (x (ix3 b s 1)) (x (ix3 b s 2)) (x (ix3 b s 3)) := by
  unfold sizes area
  pointwise [side0_at, side1_at, side2_at, side3_at, lit_one]

theorem shared_at (p q : FVec Ideal S2x2000 .f32) (b : Fin 2) (i j : Fin 2000) :
    shared p q (ix3 b i j) = max (min (q (ix2 b i)) (q (ix2 b j)) - max (p (ix2 b i)) (p (ix2 b j)) + 1) 0 := by
  unfold shared fst snd every
  pointwise [lit_one, lit_zero]

theorem common_at (b : Fin 2) (i j : Fin 2000) : common x (ix3 b i j)
    = inter (x (ix3 b i 0)) (x (ix3 b i 1)) (x (ix3 b i 2)) (x (ix3 b i 3)) (x (ix3 b j 0)) (x (ix3 b j 1)) (x (ix3 b j 2)) (x (ix3 b j 3)) := by
  unfold common inter
  pointwise [shared_at, side0_at, side1_at, side2_at, side3_at]

theorem iou_at (b : Fin 2) (i j : Fin 2000) : iou x (ix3 b i j)
    = Ideal.div (common x (ix3 b i j)) (sizes x (ix2 b i) + sizes x (ix2 b j) - common x (ix3 b i j)) := by
  unfold iou fst snd
  pointwise

end Pairs

/-! ## At the loop's entry -/

section Entry

variable (m : (ℓ : Loc nD τ sig) → Buf (Elt Ideal) ℓ) (c : Dev nD)

abbrev A0 : FVec Ideal S2x2x9x64x64 .f32 := m (c, Proc.tc.devRef main_arg0)
abbrev A1 : FVec Ideal S2x36x64x64 .f32 := m (c, Proc.tc.devRef main_arg1)
abbrev A2 : FVec Ideal S2x3 .f32 := m (c, Proc.tc.devRef main_arg2)

theorem entry_eq : entryContents preI m c = after hostOps0_2 (after hostOps0_1 (after hostOps0 (launchContents m c))) := by
  rw [entryContents, preI, afterL_cons, afterL_cons, afterL_cons, afterL_nil]

/-- The chosen boxes, of the arguments. -/
def boxes : FVec Ideal S2x2000x4 .f32 := chosen (corners (A1 m c) (A2 m c)) (first (A0 m c))

theorem entry_boxes : entryContents preI m c (Proc.devRef .tc main_v118) = boxes m c := by
  rw [entry_eq, read_boxes, read_chosen, read_corners, read_first]
  rfl
theorem entry_iou : entryContents preI m c (Proc.devRef .tc main_v175_0) = iou (boxes m c) := by
  rw [entry_eq, read_iou, read_chosen, read_corners, read_first]
  rfl

/-- They are the proposals. -/
theorem boxes_at (b : Fin 2) (s : Fin 2000) (k : Fin 4) : boxes m c (ix3 b s k) = prop (A0 m c) (A1 m c) (A2 m c) b k.castSucc s.val := by
  unfold boxes
  rw [chosen_at _ _ b s (pos (A0 m c) b s) (first_at _ b s), corners_at, prop_of_lt _ _ _ _ _ s.isLt]

/-- When the reference says box `i` overlaps box `j` too much. -/
def over (C : Fin 5 → ℕ → EReal) (i j : ℕ) : Prop :=
  thr < Ideal.div (inter (C 0 i) (C 1 i) (C 2 i) (C 3 i) (C 0 j) (C 1 j) (C 2 j) (C 3 j))
    (C 4 i + C 4 j - inter (C 0 i) (C 1 i) (C 2 i) (C 3 i) (C 0 j) (C 1 j) (C 2 j) (C 3 j))

theorem sizes_prop (b : Fin 2) (s : Fin 2000) : sizes (boxes m c) (ix2 b s) = prop (A0 m c) (A1 m c) (A2 m c) b 4 s.val := by
  rw [sizes_at, boxes_at, boxes_at, boxes_at, boxes_at, prop_of_lt _ _ _ _ _ s.isLt, prop_of_lt _ _ _ _ _ s.isLt,
    prop_of_lt _ _ _ _ _ s.isLt, prop_of_lt _ _ _ _ _ s.isLt, prop_of_lt _ _ _ _ _ s.isLt]
  rfl

theorem over_iff (b : Fin 2) (i j : Fin 2000) :
    thr < iou (boxes m c) (ix3 b i j) ↔ over (prop (A0 m c) (A1 m c) (A2 m c) b) i.val j.val := by
  rw [iou_at, sizes_prop, sizes_prop, common_at]
  simp only [boxes_at]
  rfl

end Entry

end Cert.ReferenceIdeal.Val

end
-- ==== Proof.Reference.Loop.lean ====
/- The reference's loop: after `t` trips a box's bit says that no kept box among the first `t` overlaps it too much. -/
module

public import proofs.«01_k».proof.Proof.Reference.Pairs
public import proofs.«01_k».proof.Proof.Greedy
public import Idealize.ShloMosaic.Lib.DynamicIndex

@[expose] public section

set_option maxRecDepth 8192

noncomputable section

namespace Cert.ReferenceIdeal.Val

open Cert.ReferenceIdeal Cert.ReferenceIdeal.Gen Cert.ReferenceIdeal.Value Cert.Greedy Cert.Lookup Cert.Box Cert.Answer Cert.KernelIdeal.Val
open Idealize.ShloMosaic Idealize.ShloMosaic.TcCoe Idealize.ShloMosaic.StableHlo

theorem andi_iff (a b : BitVec 1) : IntOp.andi a b = 1#1 ↔ a = 1#1 ∧ b = 1#1 := by
  rcases BitVec.eq_zero_or_eq_one a with rfl | rfl <;> rcases BitVec.eq_zero_or_eq_one b with rfl | rfl <;> decide
theorem noti_iff (a : BitVec 1) : (~~~a) = 1#1 ↔ ¬ a = 1#1 := by
  rcases BitVec.eq_zero_or_eq_one a with rfl | rfl <;> decide

section Trip

variable (I : FVec Ideal S2x2000x2000 .f32) (L : IVec S1x2000 32) (n : IVec S_ 32) (K : IVec S2x2000 1)

/-- The trip's number, counted from the end were it negative. -/
def turn : IVec S_ 32 := select (cmpi .slt n (constantI S_ 32 0#32)) (addi (id n) (constantI S_ 32 2000#32)) n

/-- The overlaps with the trip's box, and its own bit. -/
def ofRow : FVec Ideal S2x1x2000 .f32 :=
  Host.dynamicSlice S2x1x2000 I (fun k => ((![constantI S_ 32 0#32, turn n, constantI S_ 32 0#32] : Fin 3 → IVec S_ 32) k (Shape.Idx.first h_S_)).toInt)
    sliceFits_S2x2000x2000_S2x1x2000
def ofBit : IVec S2x1 1 :=
  Host.dynamicSlice S2x1 K (fun k => ((![constantI S_ 32 0#32, turn n] : Fin 2 → IVec S_ 32) k (Shape.Idx.first h_S_)).toInt) sliceFits_S2x2000_S2x1

/-- One trip on the bits. -/
def trip : IVec S2x2000 1 :=
  andi K (noti (andi (andi (cmpf .ogt (shapeCast S2x2000 (ofRow I n) shapeCasts_S2x1x2000_S2x2000) (broadcastInDim S2x2000 ![] bcast_S_S2x2000 (constant S_ .f32 0x3F333333#32)))
    (broadcastInDim S2x2000 ![0, 1] bcast_S1x2000_S2x2000_0_1 (cmpi .sgt L (broadcastInDim S1x2000 ![] bcast_S_S1x2000 (id n)))))
    (broadcastInDim S2x2000 ![0, 1] bcast_S2x1_S2x2000_0_1 (ofBit n K))))

variable (t : Fin 2000)

theorem turn_toInt : (turn (constantI S_ 32 (BitVec.ofNat 32 t.val)) (Shape.Idx.first h_S_)).toInt = (t.val : ℤ) :=
  toInt_wrap_ofNat t.val (by omega)

theorem ofRow_at (b : Fin 2) (j : Fin 2000) : ofRow I (constantI S_ 32 (BitVec.ofNat 32 t.val)) (ix3 b 0 j) = I (ix3 b t j) := by
  have hoff : S2x2000x2000.Slices ![0, t.val, 0] S2x1x2000 := ⟨rfl, fun a => by
    have := t.isLt
    fin_cases a
    · show 0 + 2 ≤ 2; omega
    · show t.val + 1 ≤ 2000; omega
    · show 0 + 2000 ≤ 2000; omega⟩
  unfold ofRow
  rw [Host.dynamicSlice_eq_extractStridedSlice S2x1x2000 I _ ![0, t.val, 0] _ hoff (fun a => by
    fin_cases a
    · rfl
    · exact turn_toInt t
    · rfl), extractStridedSlice_apply (k := ix3 b t j)]
  intro a
  fin_cases a
  · show b.val = 0 + b.val; omega
  · show t.val = t.val + 0; omega
  · show j.val = 0 + j.val; omega

theorem ofBit_at (b : Fin 2) : ofBit (constantI S_ 32 (BitVec.ofNat 32 t.val)) K (ix2 b 0) = K (ix2 b t) := by
  have hoff : S2x2000.Slices ![0, t.val] S2x1 := ⟨rfl, fun a => by
    have := t.isLt
    fin_cases a
    · show 0 + 2 ≤ 2; omega
    · show t.val + 1 ≤ 2000; omega⟩
  unfold ofBit
  rw [Host.dynamicSlice_eq_extractStridedSlice S2x1 K _ ![0, t.val] _ hoff (fun a => by
    fin_cases a
    · rfl
    · exact turn_toInt t), extractStridedSlice_apply (k := ix2 b t)]
  intro a
  fin_cases a
  · show b.val = 0 + b.val; omega
  · show t.val = t.val + 0; omega

theorem trip_at (b : Fin 2) (j : Fin 2000) : trip I line (constantI S_ 32 (BitVec.ofNat 32 t.val)) K (ix2 b j) = 1#1
    ↔ K (ix2 b j) = 1#1 ∧ ¬ ((thr < I (ix3 b t j) ∧ t.val < j.val) ∧ K (ix2 b t) = 1#1) := by
  unfold trip line
  pointwise [ofRow_at, ofBit_at]
  show IntOp.andi _ (~~~IntOp.andi (IntOp.andi _ (IntOp.cmpi .sgt (BitVec.ofNat 32 j.val) (BitVec.ofNat 32 t.val))) _) = 1#1 ↔ _
  rw [andi_iff, noti_iff, andi_iff, andi_iff, WordCmp.cmpi_sgt_ofNat (by omega) (by omega), WordCmp.ofBool_decide_eq_one_iff,
    WordCmp.ofBool_decide_eq_one_iff]
  rfl

end Trip

section Trips

variable (m : (ℓ : Loc nD τ sig) → Buf (Elt Ideal) ℓ) (c : Dev nD)

/-- The suppression the loop carries out in batch `b`. -/
abbrev Over (b : Fin 2) : ℕ → ℕ → Prop := over (prop (A0 m c) (A1 m c) (A2 m c) b)

theorem step_keep (V : Valuation τ sig (Elt Ideal)) : step_main_v175_4 V
    = trip (V (Proc.devRef .tc main_v175_0)) (V (Proc.devRef .tc main_v175_1)) (V (Proc.devRef .tc main_v175_3)) (V (Proc.devRef .tc main_v175_4)) := rfl

/-- What the loop carries after `k` trips. -/
structure At (k : ℕ) (X : Valuation τ sig (Elt Ideal)) : Prop where
  overlaps : X (Proc.devRef .tc main_v175_0) = iou (boxes m c)
  numbers : X (Proc.devRef .tc main_v175_1) = line
  count : X (Proc.devRef .tc main_v175_3) = constantI S_ 32 (BitVec.ofNat 32 k)
  bits : ∀ (b : Fin 2) (j : Fin 2000), (X (Proc.devRef .tc main_v175_4) : IVec S2x2000 1) (ix2 b j) = 1#1 ↔ ¬ marked (Over m c b) k j.val

theorem at_entry : At m c 0 (entryContents preI m c) where
  overlaps := entry_iou m c
  numbers := by rw [entry_eq, read_line]
  count := by rw [entry_eq, read_count]
  bits b j := by
    rw [entry_eq, read_keep]
    exact iff_of_true (by pointwise) (not_marked_zero _ _)

theorem at_step (k : ℕ) (hk : k < 2000) (X : Valuation τ sig (Elt Ideal)) (h : At m c k X) : At m c (k + 1) (STEP X) where
  overlaps := by rw [STEP_main_v175_0, h.overlaps]
  numbers := by rw [STEP_main_v175_1, h.numbers]
  count := by
    rw [STEP_main_v175_3]
    show id (addi (X (Proc.devRef .tc main_v175_3)) (constantI S_ 32 1#32)) = _
    rw [h.count]
    funext i
    show BitVec.ofNat 32 k + BitVec.ofNat 32 1 = _
    rw [← BitVec.ofNat_add]
    rfl
  bits b j := by
    rw [STEP_main_v175_4, step_keep, h.overlaps, h.numbers, h.count]
    rw [trip_at (iou (boxes m c)) _ ⟨k, hk⟩ b j, h.bits, h.bits, over_iff, marked_succ, kept_iff_not_marked (Over m c b) (le_refl k), not_or]

theorem at_all (k : ℕ) (hk : k ≤ 2000) : At m c k (STEP^[k] (entryContents preI m c)) := by
  induction k with
  | zero => exact at_entry m c
  | succ k ih =>
    rw [Function.iterate_succ_apply']
    exact at_step m c k (by omega) _ (ih (by omega))

/-- The contents the loop leaves. -/
abbrev left_by : Valuation τ sig (Elt Ideal) := after condOps (atTrip condOps bodyI (entryContents preI m) 2000 c)

/-- The bits the loop leaves: the boxes kept. -/
theorem kept_at (b : Fin 2) (j : Fin 2000) :
    (left_by m c (Proc.devRef .tc main_v175_4) : IVec S2x2000 1) (ix2 b j) = 1#1 ↔ kept (Over m c b) j.val := by
  have h := (at_all m c 2000 le_rfl).bits b j
  have e : left_by m c (Proc.devRef .tc main_v175_4) = (STEP^[2000] (entryContents preI m c)) (Proc.devRef .tc main_v175_4) :=
    (cond_keeps (atTrip condOps bodyI (entryContents preI m) 2000 c) main_v175_4 (by decide)).trans (atK_agree m c 2000 main_v175_4 (by decide))
  rw [kept_iff_not_marked (Over m c b) (le_of_lt j.isLt), e]
  exact h

/-- The boxes are still there. -/
theorem boxes_left : left_by m c (Proc.devRef .tc main_v118) = boxes m c := by
  have hc : ∀ V : Valuation τ sig (Elt Ideal), after condOps V (Proc.devRef .tc main_v118) = V (Proc.devRef .tc main_v118) := by
    intro V; after_reads_simp
  have hb : ∀ V : Valuation τ sig (Elt Ideal), after while0Ops0 V (Proc.devRef .tc main_v118) = V (Proc.devRef .tc main_v118) := by
    intro V; after_reads_simp
  have ht : ∀ k, atTrip condOps bodyI (entryContents preI m) k c (Proc.devRef .tc main_v118) = boxes m c := by
    intro k
    induction k with
    | zero => exact entry_boxes m c
    | succ k ih => rw [atTrip_succ, bodyI, afterL_cons, afterL_nil, hb, hc, ih]
  rw [left_by, hc, ht]

end Trips

end Cert.ReferenceIdeal.Val

end
-- ==== Proof.Reference.Pick.lean ====
/- After the loop: the reference sorts the numbers of the kept boxes to the front and looks the first 300 up. -/
module

public import proofs.«01_k».proof.Proof.Reference.Loop

@[expose] public section

set_option maxRecDepth 8192

noncomputable section

namespace Cert.ReferenceIdeal.Val

open Cert.ReferenceIdeal Cert.ReferenceIdeal.Gen Cert.ReferenceIdeal.Value Cert.Greedy Cert.Lookup Cert.Box Cert.Answer Cert.KernelIdeal.Val
open Idealize.ShloMosaic Idealize.ShloMosaic.TcCoe Idealize.ShloMosaic.StableHlo

section Ops

variable (K : IVec S2x2000 1) (x : FVec Ideal S2x2000x4 .f32) (w : IVec S2x300x1 32)

/-- The number of each kept box, 2000 at the others. -/
def marks : IVec S2x2000 32 :=
  select K (broadcastInDim S2x2000 ![0, 1] bcast_S1x2000_S2x2000_0_1 line) (broadcastInDim S2x2000 ![] bcast_S_S2x2000 (constantI S_ 32 2000#32))

/-- In order, the first 300 of them. -/
def front : IVec S2x300 32 := extractStridedSlice S2x300 ![0, 0] (Host.sort S2x2000 1 comparator_i32_d1 (marks K)) slices_S2x2000_S2x300_0_0

/-- Whether a row holds a box, and the box to look up. -/
def full : IVec S2x300 1 := cmpi .slt (front K) (broadcastInDim S2x300 ![] bcast_S_S2x300 (constantI S_ 32 2000#32))
def which : IVec S2x300x1 32 :=
  broadcastInDim S2x300x1 ![0, 1] bcast_S2x300_S2x300x1_0_1 (minsi (front K) (broadcastInDim S2x300 ![] bcast_S_S2x300 (constantI S_ 32 1999#32)))

/-- The numbers with negative ones counted from the end, and where they are in range. -/
def seated : IVec S2x300x1 32 :=
  select (cmpi .slt w (broadcastInDim S2x300x1 ![] bcast_S_S2x300x1 (constantI S_ 32 0#32)))
    (addi w (broadcastInDim S2x300x1 ![] bcast_S_S2x300x1 (constantI S_ 32 2000#32))) w
def sound : IVec S2x300 1 :=
  Host.reduce IntOp.andi (andi (cmpi .sge (seated w) (broadcastInDim S2x300x1 ![] bcast_S_S2x300x1 (constantI S_ 32 0#32)))
    (cmpi .sle (seated w) (broadcastInDim S2x300x1 ![0, 1, 2] bcast_S1x1x1_S2x300x1_0_1_2
      (broadcastInDim S1x1x1 ![2] bcast_S1_S1x1x1_2 (constantI S1 32 1999#32))))) (constantI S_ 1 1#1) reducesTo_S2x300x1_S2x300_d2 h_S_

/-- The boxes at the numbers. -/
def picked : FVec Ideal S2x300x4 .f32 :=
  select (broadcastInDim S2x300x4 ![0, 1] bcast_S2x300_S2x300x4_0_1 (sound w))
    (Host.gather gather_S2x2000x4_S2x300x1_S2x300x4_2_1_0_0_1_2_114 x (seated w))
    (broadcastInDim S2x300x4 ![] bcast_S_S2x300x4 (constant S_ .f32 0x7FC00000#32))

/-- The rows of the answer, and the answer. -/
def rows (f : IVec S2x300 1) (y : FVec Ideal S2x300x4 .f32) : FVec Ideal S2x300x4 .f32 :=
  select (broadcastInDim S2x300x4 ![0, 1, 2] bcast_S2x300x1_S2x300x4_0_1_2 (broadcastInDim S2x300x1 ![0, 1] bcast_S2x300_S2x300x1_0_1 f)) y
    (broadcastInDim S2x300x4 ![] bcast_S_S2x300x4 (constant S_ .f32 0x00000000#32))
def result (y : FVec Ideal S2x300x4 .f32) : FVec Ideal S2x300x5 .f32 :=
  concatenate S2x300x5 2 [⟨S2x300x1, broadcastInDim S2x300x1 ![0, 1, 2] bcast_S2x1x1_S2x300x1_0_1_2 (broadcastInDim S2x1x1 ![0] bcast_S2_S2x1x1_0 (sitofp .f32 (iotaInDim S2 32 0)))⟩,
    ⟨S2x300x4, y⟩] concatenates_S2x300x1_S2x300x4_S2x300x5_d2

end Ops

section Read

variable (V : Valuation τ sig (Elt Ideal))

theorem read_marks : after (hostOps0_3 ++ hostOps0_4) V (Proc.devRef .tc main_v178) = marks (V (Proc.devRef .tc main_v175_4)) := by
  after_reads_simp
  simp only [StableHlo.TRef.ofBuf_toBuf]
  rfl
theorem same_boxes1 : after (hostOps0_3 ++ hostOps0_4) V (Proc.devRef .tc main_v118) = V (Proc.devRef .tc main_v118) := by after_reads_simp

theorem read_sort : after hostOps0_5 V (Proc.devRef .tc main_v179) = Host.sort S2x2000 1 comparator_i32_d1 (V (Proc.devRef .tc main_v178) : IVec S2x2000 32) := by
  after_reads_simp
  try rfl
theorem same_boxes2 : after hostOps0_5 V (Proc.devRef .tc main_v118) = V (Proc.devRef .tc main_v118) := by after_reads_simp

theorem read_full : after hostOps0_6 V (Proc.devRef .tc main_v182)
    = cmpi .slt (extractStridedSlice S2x300 ![0, 0] (V (Proc.devRef .tc main_v179) : IVec S2x2000 32) slices_S2x2000_S2x300_0_0)
      (broadcastInDim S2x300 ![] bcast_S_S2x300 (constantI S_ 32 2000#32)) := by
  after_reads_simp
theorem read_which : after hostOps0_6 V (Proc.devRef .tc main_v185)
    = broadcastInDim S2x300x1 ![0, 1] bcast_S2x300_S2x300x1_0_1 (minsi (extractStridedSlice S2x300 ![0, 0] (V (Proc.devRef .tc main_v179) : IVec S2x2000 32) slices_S2x2000_S2x300_0_0)
      (broadcastInDim S2x300 ![] bcast_S_S2x300 (constantI S_ 32 1999#32))) := by
  after_reads_simp
theorem same_boxes3 : after hostOps0_6 V (Proc.devRef .tc main_v118) = V (Proc.devRef .tc main_v118) := by after_reads_simp

theorem read_picked : after hostOps0_7 V (Proc.devRef .tc main_v186) = picked (V (Proc.devRef .tc main_v118)) (V (Proc.devRef .tc main_v185)) := by
  after_reads_simp
  simp only [StableHlo.TRef.ofBuf_toBuf]
  rfl
theorem same_full : after hostOps0_7 V (Proc.devRef .tc main_v182) = V (Proc.devRef .tc main_v182) := by after_reads_simp

theorem read_result : after (hostOps0_8 ++ (hostOps0_9 ++ hostOps0_10)) V (Proc.devRef .tc main_v192)
    = result (rows (V (Proc.devRef .tc main_v182)) (V (Proc.devRef .tc main_v186))) := by
  after_reads_simp
  rfl

/-- Everything after the loop. -/
theorem read_post : afterL postI V (Proc.devRef .tc main_v192)
    = result (rows (full (V (Proc.devRef .tc main_v175_4))) (picked (V (Proc.devRef .tc main_v118)) (which (V (Proc.devRef .tc main_v175_4))))) := by
  have e : afterL postI V = after (hostOps0_8 ++ (hostOps0_9 ++ hostOps0_10)) (after hostOps0_7 (after hostOps0_6 (after hostOps0_5 (after (hostOps0_3 ++ hostOps0_4) V)))) := by
    rw [postI, after_append, after_append, after_append]
    simp only [afterL_cons, afterL_nil]
  rw [e, read_result, same_full, read_picked, read_full, read_which, same_boxes3, read_sort, same_boxes2, read_marks, same_boxes1]
  rfl

end Read

section At

open Classical

variable (K : IVec S2x2000 1) (x : FVec Ideal S2x2000x4 .f32) (p : ℕ → Prop) (b : Fin 2)
variable (hK : ∀ j : Fin 2000, K (ix2 b j) = 1#1 ↔ p j.val)

include hK in
theorem marks_at (j : Fin 2000) : marks K (ix2 b j) = BitVec.ofNat 32 (if p j.val then j.val else 2000) := by
  unfold marks line
  pointwise
  show (if K (ix2 b j) = 1#1 then BitVec.ofNat 32 j.val else BitVec.ofNat 32 2000) = _
  simp only [hK]
  split <;> rfl

/-- Sorting the marks puts the chosen numbers first, in order. -/
theorem sort_at (k : Fin 2000) (y : IVec S2x2000 32) (hy : ∀ j : Fin 2000, y (ix2 b j) = BitVec.ofNat 32 (if p j.val then j.val else 2000)) :
    Host.sort S2x2000 1 comparator_i32_d1 y (ix2 b k) = BitVec.ofNat 32 (if k.val < cnt p 2000 then nth p k.val else 2000) := by
  set v : Fin 2000 → ℕ := fun j => if p j.val then j.val else 2000 with hv
  have hle : ∀ j, v j ≤ 2000 := fun j => by simp only [hv]; split <;> omega
  set R : Fin 2000 → Fin 2000 → Bool := fun i j => decide (v i < v j) with hR
  have hσ : Host.sort S2x2000 1 comparator_i32_d1 y (ix2 b k) = y (ix2 b (sortedFrom R k)) := by
    unfold Host.sort
    rw [dif_pos (show (1 : ℕ) < S2x2000.rank from by decide)]
    have ea : ∀ q : Fin 2000, (ix2 b k : S2x2000.Idx).along (1 : Fin 2) q = ix2 b q := by
      intro q
      funext a
      fin_cases a <;> rfl
    have eR : (fun i j : Fin 2000 => comparator_i32_d1 (y ((ix2 b k : S2x2000.Idx).along (1 : Fin 2) i)) (y ((ix2 b k : S2x2000.Idx).along (1 : Fin 2) j)) == 1#1) = R := by
      funext i j
      rw [ea, ea, hy, hy]
      show (IntOp.cmpi .slt (BitVec.ofNat 32 (v i)) (BitVec.ofNat 32 (v j)) == 1#1) = decide (v i < v j)
      have := hle i
      have := hle j
      rw [WordCmp.cmpi_slt_ofNat (by omega) (by omega)]
      by_cases h : v i < v j
      · rw [decide_eq_true h]; rfl
      · rw [decide_eq_false h]; rfl
    show y ((ix2 b k : S2x2000.Idx).along (1 : Fin 2) (sortedFrom (n := 2000) (fun i j => comparator_i32_d1 (y ((ix2 b k : S2x2000.Idx).along (1 : Fin 2) i)) (y ((ix2 b k : S2x2000.Idx).along (1 : Fin 2) j)) == 1#1) k)) = _
    rw [eR, ea]
  have hm : Monotone fun i => v (sortedFrom R i) := by
    intro i j hij
    rcases hij.eq_or_lt with rfl | hlt
    · exact le_rfl
    · have := sortedFrom_noInversion R R (by simp only [hR, decide_eq_true_eq, decide_eq_false_iff_not]; omega) (fun _ _ h => h)
        (by simp only [hR, decide_eq_false_iff_not]; omega) i j hlt
      simp only [hR, decide_eq_false_iff_not] at this
      exact not_lt.1 this
  rw [hσ, hy, sorted_eq p (sortedFrom R) ⟨sortedFrom_injective R, sortedFrom_surjective R⟩ hm k]

include hK in
theorem front_at (s : Fin 300) : front K (ix2 b s) = BitVec.ofNat 32 (if s.val < cnt p 2000 then nth p s.val else 2000) := by
  unfold front
  pointwise
  exact sort_at p b _ _ (marks_at K p b hK)

/-- A chosen box's number is below 2000. -/
theorem nth_lt {s : ℕ} (h : s < cnt p 2000) : nth p s < 2000 := by
  obtain ⟨n, hn, hp, hr⟩ := exists_rank p h
  rwa [nth_of_rank p hp hr]

include hK in
theorem full_at (s : Fin 300) : full K (ix2 b s) = 1#1 ↔ s.val < cnt p 2000 := by
  unfold full
  pointwise [front_at K p b hK]
  show IntOp.cmpi .slt (BitVec.ofNat 32 _) (BitVec.ofNat 32 2000) = 1#1 ↔ _
  by_cases h : s.val < cnt p 2000
  · have := nth_lt p h
    rw [if_pos h, WordCmp.cmpi_slt_ofNat (by omega) (by omega), WordCmp.ofBool_decide_eq_one_iff]
    exact iff_of_true this h
  · rw [if_neg h, WordCmp.cmpi_slt_ofNat (by omega) (by omega), WordCmp.ofBool_decide_eq_one_iff]
    exact iff_of_false (lt_irrefl _) h

include hK in
theorem which_at (s : Fin 300) : which K (ix3 b s 0) = BitVec.ofNat 32 (if s.val < cnt p 2000 then nth p s.val else 1999) := by
  unfold which
  pointwise [front_at K p b hK]
  show IntOp.minsi (BitVec.ofNat 32 _) (BitVec.ofNat 32 1999) = _
  have hs : ∀ N, N ≤ 2000 → IntOp.minsi (BitVec.ofNat 32 N) (BitVec.ofNat 32 1999) = BitVec.ofNat 32 (min N 1999) := by
    intro N hN
    unfold IntOp.minsi
    rw [BitVec.slt, WordCmp.toInt_ofNat_of_lt (by omega), WordCmp.toInt_ofNat_of_lt (by omega)]
    by_cases h : N < 1999
    · rw [if_pos (by simpa using h), min_eq_left (by omega)]
    · rw [if_neg (by simpa using h), min_eq_right (by omega)]
  by_cases h : s.val < cnt p 2000
  · have := nth_lt p h
    rw [if_pos h, if_pos h, hs _ (by omega), min_eq_left (by omega)]
  · rw [if_neg h, if_neg h, hs _ (by omega), min_eq_right (by omega)]

section Taken

variable (w : IVec S2x300x1 32) (s : Fin 300) (N : Fin 2000) (h : w (ix3 b s 0) = BitVec.ofNat 32 N.val)

include h in
theorem seated_at : seated w (ix3 b s 0) = BitVec.ofNat 32 N.val := by
  have := N.isLt
  unfold seated
  pointwise [h]
  exact not_from_end (by omega) _ _

include h in
theorem sound_at : sound w (ix2 b s) = 1#1 := by
  have := N.isLt
  unfold sound
  pointwise
  refine fold_one _ ?_
  rw [seated_at b w s N h]
  exact passes (M := 1999) (by omega) (by omega)

include h in
theorem picked_at (q : Fin 4) : picked x w (ix3 b s q) = x (ix3 b N q) := by
  unfold picked
  pointwise [sound_at b w s N h]
  exact gather_at (n := 2000) (k := 300) _ x _ b s q N.val N.isLt (by omega) (seated_at b w s N h)

end Taken

include hK in
theorem rows_at (C : ℕ → EReal) (q : Fin 4) (hx : ∀ n : Fin 2000, x (ix3 b n q) = C n.val) (s : Fin 300) :
    rows (full K) (picked x (which K)) (ix3 b s q) = pick p 2000 C s.val := by
  have hw := which_at K p b hK s
  have hf := full_at K p b hK s
  unfold rows pick
  pointwise [lit_zero]
  by_cases h : s.val < cnt p 2000
  · rw [if_pos h] at hw
    rw [if_pos h, hf.2 h]
    exact (picked_at x b (which K) s ⟨nth p s.val, nth_lt p h⟩ hw q).trans (hx _)
  · rw [if_neg h]
    show (if full K (ix2 b s) = 1#1 then _ else _) = _
    rw [if_neg (fun e => h (hf.1 e))]

end At

theorem result_at0 (y : FVec Ideal S2x300x4 .f32) (b : Fin 2) (s : Fin 300) : result y (ix3 b s 0) = ((b.val : ℝ) : EReal) := by
  unfold result
  pointwise
  show (((BitVec.ofNat 32 b.val).toInt : ℝ) : EReal) = _
  rw [WordCmp.toInt_ofNat_of_lt (by omega), Int.cast_natCast]

theorem result_at (y : FVec Ideal S2x300x4 .f32) (b : Fin 2) (s : Fin 300) (q : Fin 4) : result y (ix3 b s q.succ) = y (ix3 b s q) := by
  unfold result
  fin_cases q
  · show _ = y (ix3 b s 0)
    show concatenate _ _ _ _ (ix3 b s (1 : Fin 5)) = _
    pointwise
  · show _ = y (ix3 b s 1)
    show concatenate _ _ _ _ (ix3 b s (2 : Fin 5)) = _
    pointwise
  · show _ = y (ix3 b s 2)
    show concatenate _ _ _ _ (ix3 b s (3 : Fin 5)) = _
    pointwise
  · show _ = y (ix3 b s 3)
    show concatenate _ _ _ _ (ix3 b s (4 : Fin 5)) = _
    pointwise

/-- The reference's output is the answer for the suppression it carries out. -/
def rAns (m : (ℓ : Loc nD τ sig) → Buf (Elt Ideal) ℓ) (c : Dev nD) : FVec Ideal S2x300x5 .f32 :=
  fun i => answer (Over m c (i 0)) (prop (A0 m c) (A1 m c) (A2 m c) (i 0)) (i 0) (i 1).val (i 2)

theorem final_out (m : (ℓ : Loc nD τ sig) → Buf (Elt Ideal) ℓ) (c : Dev nD) :
    finalContents condOps preI bodyI postI 2000 m c (Proc.devRef .tc main_v192) = rAns m c := by
  show afterL postI (left_by m c) (Proc.devRef .tc main_v192) = _
  rw [read_post, boxes_left]
  have hr : ∀ (b : Fin 2) (s : Fin 300) (k : Fin 5),
      result (rows (full (left_by m c (Proc.devRef .tc main_v175_4))) (picked (boxes m c) (which (left_by m c (Proc.devRef .tc main_v175_4))))) (ix3 b s k)
        = answer (Over m c b) (prop (A0 m c) (A1 m c) (A2 m c) b) b s.val k := by
    intro b s k
    unfold answer
    refine Fin.cases ?_ (fun q => ?_) k
    · rw [result_at0, if_pos rfl]
    · rw [result_at, if_neg (Fin.succ_ne_zero q)]
      refine rows_at _ _ (real (Over m c b) 2000) b (fun j => ?_) _ q (fun n => ?_) s
      · rw [kept_at m c b j]
        exact ⟨fun h => ⟨h, j.isLt⟩, fun h => h.1⟩
      · rw [boxes_at]
        congr 1
  funext i
  have e : i = ix3 (i 0) (i 1) (i 2) := by
    funext a
    fin_cases a <;> rfl
  rw [e]
  exact hr _ _ _

end Cert.ReferenceIdeal.Val

end
-- ==== Proof.Iou.lean ====
/- The two overlap tests agree. With a finite image size every clipped corner is a real number and no box is inside out,
   so the union of two boxes is a positive real, and "overlap above threshold times union" says the same as "overlap
   divided by union above threshold". -/
module

public import proofs.«01_k».proof.Proof.Answer
public import proofs.«01_k».proof.Proof.KernelIdeal.Reads
public import proofs.«01_k».proof.Proof.Reference.Props
public import proofs.«01_k».proof.Proof.Reference.Pairs

@[expose] public section

noncomputable section

namespace Cert.Iou

open Idealize.ShloMosaic Cert.Box Cert.Answer Cert.Lookup

theorem exp_nonneg (x : EReal) : 0 ≤ Ideal.exp x := by
  induction x with
  | bot => exact le_rfl
  | top => exact le_top
  | coe r => exact EReal.coe_nonneg.2 (Real.exp_pos r).le

theorem half_nonneg : 0 ≤ half := by
  unfold half
  rw [Cert.ReferenceIdeal.Val.lit_half]
  exact EReal.coe_nonneg.2 (by norm_num)

theorem wOf_nonneg (n : ℕ) : 0 ≤ wOf n := by
  unfold wOf
  split <;> norm_num

theorem hOf_nonneg (n : ℕ) : 0 ≤ hOf n := by
  unfold hOf
  split <;> norm_num

theorem ext_nonneg (e : EReal) {w : ℝ} (hw : 0 ≤ w) : 0 ≤ half * ext e w :=
  mul_nonneg half_nonneg (mul_nonneg (exp_nonneg e) (EReal.coe_nonneg.2 hw))

theorem lo_le_hi (d e : EReal) {w : ℝ} (hw : 0 ≤ w) (g : ℕ) (im : EReal) : lo d e w g im ≤ hi d e w g im := by
  have h := ext_nonneg e hw
  refine min_le_min_right _ (max_le_max_right _ ?_)
  rw [sub_eq_add_neg]
  refine add_le_add_right ?_ _
  exact (EReal.neg_le_neg_iff.2 h).trans (by rw [neg_zero]; exact h)

/-- A number clipped from below at zero and from above at a real is real. -/
theorem clip_real (x : EReal) (r : ℝ) : ∃ l : ℝ, min (max x 0) ((r : EReal) - 1) = (l : EReal) := by
  have e : (r : EReal) - 1 = ((r - 1 : ℝ) : EReal) := by rw [EReal.coe_sub, EReal.coe_one]
  rw [e]
  have ht : min (max x 0) ((r - 1 : ℝ) : EReal) ≠ ⊤ := ne_top_of_le_ne_top (EReal.coe_ne_top _) (min_le_right _ _)
  have hb : min (max x 0) ((r - 1 : ℝ) : EReal) ≠ ⊥ := by
    have : (⊥ : EReal) < min (max x 0) ((r - 1 : ℝ) : EReal) :=
      lt_min ((EReal.bot_lt_zero).trans_le (le_max_right _ _)) (EReal.bot_lt_coe _)
    exact this.ne'
  exact ⟨_, (EReal.coe_toReal ht hb).symm⟩

theorem axis_real (d e : EReal) {w : ℝ} (hw : 0 ≤ w) (g : ℕ) (r : ℝ) :
    ∃ l h : ℝ, lo d e w g r = (l : EReal) ∧ hi d e w g r = (h : EReal) ∧ l ≤ h := by
  obtain ⟨l, hl⟩ := clip_real (ctr d w g - half * ext e w) r
  obtain ⟨h, hh⟩ := clip_real (ctr d w g + half * ext e w) r
  refine ⟨l, h, hl, hh, ?_⟩
  have := lo_le_hi d e hw g (r : EReal)
  rw [lo, hi, hl, hh] at this
  exact EReal.coe_le_coe_iff.1 this

/-- Every proposal is a box with real corners, right way round, and its area is the product of its sides. -/
theorem box_real (N : ℕ) (d : Fin 4 → EReal) (rh rw' : ℝ) :
    ∃ x1 y1 x2 y2 : ℝ, box N d rh rw' 0 = (x1 : EReal) ∧ box N d rh rw' 1 = (y1 : EReal) ∧ box N d rh rw' 2 = (x2 : EReal)
      ∧ box N d rh rw' 3 = (y2 : EReal) ∧ box N d rh rw' 4 = (((x2 - x1 + 1) * (y2 - y1 + 1) : ℝ) : EReal) ∧ x1 ≤ x2 ∧ y1 ≤ y2 := by
  obtain ⟨x1, x2, h1, h2, hx⟩ := axis_real (d 0) (d 2) (wOf_nonneg (N % 9)) (N / 9 % 64) rw'
  obtain ⟨y1, y2, h3, h4, hy⟩ := axis_real (d 1) (d 3) (hOf_nonneg (N % 9)) (N / 9 / 64) rh
  refine ⟨x1, y1, x2, y2, h1, h3, h2, h4, ?_, hx, hy⟩
  show area (lo _ _ _ _ _) (lo _ _ _ _ _) (hi _ _ _ _ _) (hi _ _ _ _ _) = _
  rw [h1, h2, h3, h4]
  unfold area
  push_cast
  rfl

theorem thr_real : ∃ t : ℝ, Cert.KernelIdeal.Val.thr = (t : EReal) := by
  have ht : Cert.KernelIdeal.Val.thr ≠ ⊤ := by
    show Ideal.ieee 8 23 (0x3F333333#32 : BitVec 32) ≠ _
    unfold Ideal.ieee
    dsimp only
    rw [if_neg (by decide), if_neg (by decide)]
    exact EReal.coe_ne_top _
  have hb : Cert.KernelIdeal.Val.thr ≠ ⊥ := by
    show Ideal.ieee 8 23 (0x3F333333#32 : BitVec 32) ≠ _
    unfold Ideal.ieee
    dsimp only
    rw [if_neg (by decide), if_neg (by decide)]
    exact EReal.coe_ne_bot _
  exact ⟨_, (EReal.coe_toReal ht hb).symm⟩

/-- The side of an overlap is no longer than either box's side. -/
theorem side_le {a1 a2 b1 b2 : ℝ} (ha : a1 ≤ a2) : max (min a2 b2 - max a1 b1 + 1) 0 ≤ a2 - a1 + 1 :=
  max_le (by have := min_le_left a2 b2; have := le_max_left a1 b1; linarith) (by linarith)

theorem inter_real (a0 a1 a2 a3 b0 b1 b2 b3 : ℝ) :
    Cert.KernelIdeal.Val.inter a0 a1 a2 a3 b0 b1 b2 b3
      = ((max (min a2 b2 - max a0 b0 + 1) 0 * max (min a3 b3 - max a1 b1 + 1) 0 : ℝ) : EReal) := by
  have hmin : ∀ x y : ℝ, ((min x y : ℝ) : EReal) = min (x : EReal) y := fun x y => EReal.coe_strictMono.monotone.map_min
  have hmax : ∀ x y : ℝ, ((max x y : ℝ) : EReal) = max (x : EReal) y := fun x y => EReal.coe_strictMono.monotone.map_max
  unfold Cert.KernelIdeal.Val.inter
  rw [EReal.coe_mul, hmax, hmax, EReal.coe_add, EReal.coe_add, EReal.coe_sub, EReal.coe_sub, hmin, hmin, hmax, hmax]
  rfl

/-- The two tests on a real overlap and a positive real union. -/
theorem test_iff (t I u : ℝ) (hu : 0 < u) : ((t : EReal) * (u : EReal) < (I : EReal)) ↔ (t : EReal) < Ideal.div (I : EReal) (u : EReal) := by
  have hne : (u : EReal) ≠ 0 := by
    rw [← EReal.coe_zero, Ne, EReal.coe_eq_coe_iff]
    exact hu.ne'
  rw [Ideal.div, if_neg hne, ← EReal.coe_inv, ← EReal.coe_mul, ← EReal.coe_mul, EReal.coe_lt_coe_iff, EReal.coe_lt_coe_iff,
    ← div_eq_mul_inv, lt_div_iff₀ hu]

/-- The kernel's overlap test and the reference's agree on any two proposals. -/
theorem hits_iff (a0 : (⟨5, ![2, 2, 9, 64, 64]⟩ : Shape).Idx → EReal) (a1 : (⟨4, ![2, 36, 64, 64]⟩ : Shape).Idx → EReal)
    (a2 : (⟨2, ![2, 3]⟩ : Shape).Idx → EReal) (b : Fin 2) (rh rw' : ℝ) (h0 : a2 (ix2 b 0) = (rh : EReal)) (h1 : a2 (ix2 b 1) = (rw' : EReal))
    (i j : ℕ) (hi : i < 2000) (hj : j < 2000) :
    Cert.KernelIdeal.Val.hits (prop a0 a1 a2 b) i j ↔ Cert.ReferenceIdeal.Val.over (prop a0 a1 a2 b) i j := by
  obtain ⟨p1, q1, p2, q2, e0, e1, e2, e3, e4, hp, hq⟩ := box_real (pos a0 b ⟨i, hi⟩).val (dl a1 b (pos a0 b ⟨i, hi⟩)) rh rw'
  obtain ⟨r1, s1, r2, s2, f0, f1, f2, f3, f4, hr, hs⟩ := box_real (pos a0 b ⟨j, hj⟩).val (dl a1 b (pos a0 b ⟨j, hj⟩)) rh rw'
  obtain ⟨t, ht⟩ := thr_real
  unfold Cert.KernelIdeal.Val.hits Cert.ReferenceIdeal.Val.over
  simp only [prop_of_lt _ _ _ _ _ hi, prop_of_lt _ _ _ _ _ hj, h0, h1, e0, e1, e2, e3, e4, f0, f1, f2, f3, f4]
  rw [inter_real, ht, ← EReal.coe_add, ← EReal.coe_sub]
  refine test_iff _ _ _ ?_
  have k1 : max (min p2 r2 - max p1 r1 + 1) 0 * max (min q2 s2 - max q1 s1 + 1) 0 ≤ (p2 - p1 + 1) * (q2 - q1 + 1) :=
    mul_le_mul (side_le hp) (side_le hq) (le_max_right _ _) (by linarith)
  have k2 : 0 < (r2 - r1 + 1) * (s2 - s1 + 1) := mul_pos (by linarith) (by linarith)
  linarith

/-- A number whose absolute value is below infinity is real. -/
theorem real_of_abs (x : EReal) (h : max x (-x) < ⊤) : ∃ r : ℝ, x = (r : EReal) := by
  induction x with
  | bot => simp at h
  | top => simp at h
  | coe r => exact ⟨r, rfl⟩

end Cert.Iou

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_image_size
public import proofs.«01_k».proof.Proof.Kernel.Frame
public import proofs.«01_k».proof.Proof.KernelIdeal.Frame
public import proofs.«01_k».proof.Proof.Reference.Frame
public import proofs.«01_k».proof.Proof.KernelIdeal.Value
public import proofs.«01_k».proof.Proof.Reference.Pick
public import proofs.«01_k».proof.Proof.Iou
public import Idealize.ShloMosaic.Lib.Pointwise
public import Idealize.ShloMosaic.Adequacy
public import Idealize.ShloMosaic.Init

@[expose] public section

noncomputable section

namespace Cert.Proof

open Idealize.ShloMosaic Idealize.SL.Sem Cert.Kernel

/-- Under the precondition every image height and width is a real number. -/
theorem size_real (a0 : (⟨5, ![2, 2, 9, 64, 64]⟩ : Shape).Idx → EReal) (a1 : (⟨4, ![2, 36, 64, 64]⟩ : Shape).Idx → EReal)
    (a2 : (⟨2, ![2, 3]⟩ : Shape).Idx → EReal)
    (h : Cert.Pre_finite_image_size.fn (F := Ideal) a0 a1 a2 = fun _ => 1#1) (b : Fin 2) :
    (∃ r : ℝ, a2 (ix2 b 0) = (r : EReal)) ∧ ∃ r : ℝ, a2 (ix2 b 1) = (r : EReal) := by
  have hx : ∀ (x : EReal), Ideal.cmp .olt (max x (-x)) (Ideal.ofBits .f32 0x7F800000#32) = 1#1 → ∃ r : ℝ, x = (r : EReal) := by
    intro x hx
    have e : Ideal.ofBits .f32 0x7F800000#32 = ⊤ := by simp [Ideal.ofBits, Ideal.ieee]
    rw [e] at hx
    refine Cert.Iou.real_of_abs x ?_
    by_contra hn
    have h0 : Ideal.cmp .olt (max x (-x)) ⊤ = 0#1 := by
      show BitVec.ofBool (decide (max x (-x) < ⊤)) = _
      rw [decide_eq_false hn]
      rfl
    rw [h0] at hx
    exact absurd hx (by decide)
  have h0 := congrFun h (ix2 b 0)
  have h1 := congrFun h (ix2 b 1)
  unfold Cert.Pre_finite_image_size.fn at h0 h1
  pointwise at h0
  pointwise at h1
  exact ⟨hx _ h0, hx _ h1⟩

/-- The two answers are one, whatever memories the two programs start from, if their arguments agree. -/
theorem answers_eq (a0 : (⟨5, ![2, 2, 9, 64, 64]⟩ : Shape).Idx → EReal) (a1 : (⟨4, ![2, 36, 64, 64]⟩ : Shape).Idx → EReal)
    (a2 : (⟨2, ![2, 3]⟩ : Shape).Idx → EReal)
    (h : Cert.Pre_finite_image_size.fn (F := Ideal) a0 a1 a2 = fun _ => 1#1) (b : Fin 2) :
    Cert.Answer.answer (Cert.ReferenceIdeal.Val.over (Cert.Answer.prop a0 a1 a2 b)) (Cert.Answer.prop a0 a1 a2 b)
      = Cert.Answer.answer (Cert.KernelIdeal.Val.hits (Cert.Answer.prop a0 a1 a2 b)) (Cert.Answer.prop a0 a1 a2 b) := by
  obtain ⟨⟨rh, h0⟩, ⟨rw', h1⟩⟩ := size_real a0 a1 a2 h b
  exact Cert.Answer.answer_congr _ _ _ fun i j hij hj => (Cert.Iou.hits_iff a0 a1 a2 b rh rw' h0 h1 i j (by omega) hj).symm

/-- Equal results over the extended reals. -/
theorem algebraic : algebraic_KernelIdeal_ReferenceIdeal_pre_finite_image_size := by
  intro m g m' g' hpre hagree
  refine ⟨fun c => Cert.KernelIdeal.Val.kAns m c, ?_, ?_⟩
  · refine (θ_run _ _ _).mono (fun r h c => ⟨?_, Cert.KernelIdeal.Body.kept m (.inl rfl) r h.1 c,
      Cert.KernelIdeal.Body.kept m (.inr (.inl rfl)) r h.1 c, Cert.KernelIdeal.Body.kept m (.inr (.inr rfl)) r h.1 c⟩)
      (Cert.KernelIdeal.Body.run_quiet m g)
    exact ((h.1 c).1 3).trans (Cert.KernelIdeal.Val.arr m c)
  · refine (θ_run _ _ _).mono (fun r h c => ⟨?_, (h c _ rfl).trans (Cert.ReferenceIdeal.Host.final_arg m' c (.inl rfl)),
      (h c _ rfl).trans (Cert.ReferenceIdeal.Host.final_arg m' c (.inr (.inl rfl))),
      (h c _ rfl).trans (Cert.ReferenceIdeal.Host.final_arg m' c (.inr (.inr rfl)))⟩) (Cert.ReferenceIdeal.Value.run_fold m' g')
    refine (h c _ rfl).trans ((Cert.ReferenceIdeal.Val.final_out m' c).trans ?_)
    obtain ⟨e0, e1, e2⟩ := hagree c
    funext i
    have k0 : Cert.ReferenceIdeal.Val.A0 m' c = Cert.KernelIdeal.Val.A0 m c := e0
    have k1 : Cert.ReferenceIdeal.Val.A1 m' c = Cert.KernelIdeal.Val.A1 m c := e1
    have k2 : Cert.ReferenceIdeal.Val.A2 m' c = Cert.KernelIdeal.Val.A2 m c := e2
    show Cert.Answer.answer (Cert.ReferenceIdeal.Val.over (Cert.Answer.prop (Cert.ReferenceIdeal.Val.A0 m' c) (Cert.ReferenceIdeal.Val.A1 m' c) (Cert.ReferenceIdeal.Val.A2 m' c) (i 0)))
      (Cert.Answer.prop (Cert.ReferenceIdeal.Val.A0 m' c) (Cert.ReferenceIdeal.Val.A1 m' c) (Cert.ReferenceIdeal.Val.A2 m' c) (i 0)) (i 0) (i 1).val (i 2) = _
    rw [k0, k1, k2, answers_eq _ _ _ (hpre c) (i 0)]
    rfl

theorem claim : Cert.Claim := ⟨Cert.Kernel.Gen.facts, Cert.KernelIdeal.Gen.facts, Cert.ReferenceIdeal.Gen.facts, Cert.Pre_finite_image_size.Gen.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Host.frame m ρ,
  fun m ρ _ => Cert.ReferenceIdeal.Host.frame m ρ,
  trivial,
  algebraic⟩

end Cert.Proof

end
